-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S256x256 : Shape := ⟨2, ![256, 256]⟩
abbrev S2x256x256 : Shape := ⟨3, ![2, 256, 256]⟩
abbrev S5x256x256 : Shape := ⟨3, ![5, 256, 256]⟩
abbrev S5 : Shape := ⟨1, ![5]⟩
abbrev S_ : Shape := ⟨0, ![]⟩
abbrev S1x128x256 : Shape := ⟨3, ![1, 128, 256]⟩
abbrev S128x256 : Shape := ⟨2, ![128, 256]⟩
abbrev S1x256x256 : Shape := ⟨3, ![1, 256, 256]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S2x256x256, .bf16⟩
  | .local _ .vmem, ⟨5, _⟩ => ⟨S5x256x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_33 : BitVec 32 := 1#32
  let v51 : BitVec 32 := Scalar.xori v2 c1_i32_33
  let c1_i32_38 : BitVec 32 := 1#32
  let v52 : BitVec 32 := Scalar.muli v51 c1_i32_38
  let v53 : BitVec 32 := Scalar.addi c0_i32_39 v52
  v53.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_63 : BitVec 32 := 2#32
  let v78 : BitVec 32 := Scalar.xori v2 c2_i32_63
  let c1_i32_68 : BitVec 32 := 1#32
  let v79 : BitVec 32 := Scalar.muli v78 c1_i32_68
  let v80 : BitVec 32 := Scalar.addi c0_i32_69 v79
  v80.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_102 : BitVec 32 := 4#32
  let v111 : BitVec 32 := Scalar.xori v2 c4_i32_102
  let c1_i32_107 : BitVec 32 := 1#32
  let v112 : BitVec 32 := Scalar.muli v111 c1_i32_107
  let v113 : BitVec 32 := Scalar.addi c0_i32_108 v112
  v113.toNat
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_140 : BitVec 32 := 8#32
  let v144 : BitVec 32 := Scalar.xori v2 c8_i32_140
  let c1_i32_144 : BitVec 32 := 1#32
  let v145 : BitVec 32 := Scalar.muli v144 c1_i32_144
  let v146 : BitVec 32 := Scalar.addi c0_i32_145 v145
  v146.toNat
def k0_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_177 : BitVec 32 := 16#32
  let v177 : BitVec 32 := Scalar.xori v2 c16_i32_177
  let c1_i32_182 : BitVec 32 := 1#32
  let v178 : BitVec 32 := Scalar.muli v177 c1_i32_182
  let v179 : BitVec 32 := Scalar.addi c0_i32_183 v178
  v179.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S256 : Shape := ⟨1, ![256]⟩
abbrev S256x128x256 : Shape := ⟨3, ![256, 128, 256]⟩
abbrev S256x256 : Shape := ⟨2, ![256, 256]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S64x128x256, .bf16⟩
  | .hbm, ⟨4, _⟩ => ⟨S256, .i32⟩
  | .hbm, ⟨5, _⟩ => ⟨S64x128x256, .f32⟩
  | .hbm, ⟨6, _⟩ => ⟨S256x1, .i32⟩
  | .hbm, ⟨7, _⟩ => ⟨S256x128x256, .f32⟩
  | .hbm, ⟨8, _⟩ => ⟨S256x128, .f32⟩
  | .hbm, ⟨9, _⟩ => ⟨S256x256, .f32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i1⟩
  | .hbm, ⟨17, _⟩ => ⟨S256x1, .i1⟩
  | .hbm, ⟨18, _⟩ => ⟨S_, .f32⟩
  | .hbm, ⟨19, _⟩ => ⟨S_, .f32⟩
  | .hbm, ⟨20, _⟩ => ⟨S256x256, .i1⟩
  | .hbm, ⟨21, _⟩ => ⟨S256x256, .f32⟩
  | .hbm, ⟨22, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Slab.lean ====
/-
# Slabs of a scratch array

Loads, stores and remote copies through one slab (a unit-stride slice) of a scratch array, stated on
the ownership of that slab alone: the array's other slabs may be in flight meanwhile.
-/
module

public import Idealize.ShloMosaic.Lib.Rounds
public import Idealize.ShloMosaic.Lib.MemrefSat
public import Idealize.ShloMosaic.Lib.ViewIndex
public import Idealize.ShloMosaic.Lib.Tactic

@[expose] public section

noncomputable section

namespace Cert.Slab

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {Val : EltTy → Type} {Name : Type} [DecidableEq Name] {U : Type} [URA U] {Lvl : Type} {Λ : Labels}

local notation "𝕄" => MT nD τ sig Ix Val Name U Lvl

/-! ## What a copy between squeezed slabs leaves -/

/-- Contents copied from one re-indexed view to another re-indexed the same way: the destination then
    reads what the source reads. -/
theorem read_copied {κ κ' : Kind} {sp sp' : Space} {s s' : Shape} {e : EltTy} (v : View sig κ sp s e) (v' : View sig κ' sp' s e)
    (h : s'.numel = s.numel) (f : v.ty.Contents Val) (f' : v'.ty.Contents Val) :
    v.read Val ((v.reshape s' h).write Val f ((v'.reshape s' h).read Val f') Finset.univ) = v'.read Val f' := by
  funext y
  obtain ⟨x, rfl⟩ := (Shape.reshapeEquiv h).surjective y
  exact View.read_write_reshape v h f _ x

section Steps

variable [Preorder Lvl] {defs : Defs nD τ sig Val Λ} (𝒱 : Variants) (c : Thread nD τ) (bd : Option 𝒱.V)
  {Γ : PendingWaitsCtx sig Ix} (E : Set Name)
variable {s : Shape} {e : EltTy} {α : Type} {Q : α → sProp (MT nD τ sig Ix Val Name U Lvl)}

/-- A load of a slab held at any share reads what the slab holds. -/
theorem wp_load_slab {cs : CoreSpace} (m : Memref sig c.2.kind cs s e) (r : Rect s) (hr : ∀ a, r.stride a = 1)
    (q : PosShare TreeShare) (X : r.shape.Idx → Val e) {hl : m.view.LoadsAt r.toLoadRect}
    {k : (r.shape.Idx → Val e) → Prog (TpuEff nD τ sig Val Λ c.2) α} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r.toLoadRect hl) k) Q) := by
  unfold owns
  iintro ⟨%f, %hf, H⟩ Hk
  subst hf
  iapply (wp_load_rect 𝒱 c bd E (m := m) (r := r) (S := (m.slice r hr).view.set) (q := q) (f := f) subset_rfl) $$ H
  iintro H
  iapply Hk
  iexists f
  isplitr; · ipureintro; rfl
  iexact H

/-- A store of a whole slab held in full leaves it holding what was stored. -/
theorem wp_store_slab {cs : CoreSpace} (m : Memref sig c.2.kind cs s e) (r : Rect s) (hr : ∀ a, r.stride a = 1)
    (X w : r.shape.Idx → Val e) {hx : (m.access r).Stores Finset.univ} {hm}
    {k : PUnit → Prog (TpuEff nD τ sig Val Λ c.2) α} :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (Mk := Finset.univ) (S := (m.slice r hr).view.set) (f := f)
    ((m.access r).setOn_subset_set _)) $$ H
  iintro H
  iapply Hk
  iexists ((m.access r).write Val f w Finset.univ)
  isplitr; · ipureintro; exact View.read_write_univ _ _
  iexact H

variable {D : Type} [DecidableEq D]
variable (ER : Emb (URounds (GSem nD τ sig) D) (MT nD τ sig Ix Val Name U Lvl)) (Rd : Rounds.Schedule (GSem nD τ sig) D (MT nD τ sig Ix Val Name U Lvl))

/-- A remote copy of a slab, held at the share `q`, into a slab of another device held in full, both
    squeezed to the shape `s'`: the send cell is handed the source back, the receive cell the
    destination holding the source's contents. -/
theorem wp_send_slab {c' : Thread nD τ} {sp sp' : Space} {s' : Shape} (src : Memref sig c.2.kind sp s e)
    (dst : Memref sig c'.2.kind sp' s e) (hq hq' : s.Squeezes s') {sS sem : SemLoc sig}
    {hsc : (dst.squeeze s' hq').view.ref.isScScratch = false}
    {hsrc : (src.squeeze s' hq).view.WordExact} {hdst : (dst.squeeze s' hq').view.WordExact}
    {hsem : DmaTarget.Typed sp sem (.remote c' (dst.squeeze s' hq') sS hsc)}
    {k : PUnit → Prog (TpuEff nD τ sig Val Λ c.2) α} {q : PosShare TreeShare} (X Y : s.Idx → Val e) {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : (dst.squeeze s' hq').view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂)
    (hr : τ.routes c c' = true := by routes) :
    (iprop(cellInv ER Rd κ₁ (c, sS) ∗ cellInv ER Rd κ₂ (c', sem)
        ∗ owns c src q X ∗ owns c' dst fullShare Y
        ∗ owes c O₀ W
        ∗ dutyTok ER (c, sS) r₁ d₁ ∗ reached ER (c, sS) r₁
        ∗ dutyTok ER (c', sem) r₂ d₂ ∗ reached ER (c', sem) r₂) : sProp 𝕄)
      ⊢ iprop(((cred (tallyAt (c, sS) ι' N) ∗ owes c O W) -∗ wp frame (wpE' defs 𝒱 c bd Γ) E (k ⟨⟩) Q)
          -∗ wp frame (wpE' defs 𝒱 c bd Γ) E
            (.op (.enqueueDma (src.squeeze s' hq) (.remote c' (dst.squeeze s' hq') sS hsc) sem hsrc hdst hsem) k) Q) := by
  iintro ⟨HI₁, HI₂, Hs, Hd, HO, Ht₁, Hr₁, Ht₂, Hr₂⟩ Hk
  ihave Hs' := (show (owns c src q X : sProp 𝕄) ⊢ iprop(∃ f, ⌜src.view.read Val f = X⌝ ∗ src.view.loc c ↦[src.view.set]{q} f) from .rfl) $$ Hs
  ihave Hd' := (show (owns c' dst fullShare Y : sProp 𝕄) ⊢ iprop(∃ f, ⌜dst.view.read Val f = Y⌝ ∗ dst.view.loc c' ↦[dst.view.set]{fullShare} f) from .rfl) $$ Hd
  icases Hs' with ⟨%f, %hf, Hs⟩
  icases Hd' with ⟨%g, %hg, Hd⟩
  subst hf
  have es : (src.squeeze s' hq).view.set = src.view.set := View.set_reshape _ _
  have ed : (dst.squeeze s' hq').view.set = dst.view.set := View.set_reshape _ _
  iapply (Rounds.wp_send_pointsTo 𝒱 ER Rd c bd (c' := c') (src := src.squeeze s' hq) (dst := dst.squeeze s' hq')
      (κ₁ := κ₁) (κ₂ := κ₂) (q := q) (fs := f) (fd := g) hd₁ hd₂ ι ι' N hN hk₁ hk₂ O hO (W := W)
      (by rw [es]; exact (owns_intro c src q f).trans hpay₁)
      (by
        rw [ed]
        exact ((owns_intro c' dst fullShare _).trans (Entails.of_eq (congrArg (owns c' dst fullShare)
          (read_copied dst.view src.view _ g f)))).trans hpay₂) hr) $$ [HI₁ HI₂ Hs Hd HO Ht₁ Hr₁ Ht₂ Hr₂]
  · isplitl [HI₁]; · iexact HI₁
    isplitl [HI₂]; · iexact HI₂
    isplitl [Hs]; · rw [es]; iexact Hs
    isplitl [Hd]; · rw [ed]; iexact Hd
    isplitl [HO]; · iexact HO
    isplitl [Ht₁]; · iexact Ht₁
    isplitl [Hr₁]; · iexact Hr₁
    isplitl [Ht₂]; · iexact Ht₂
    iexact Hr₂
  iexact Hk

end Steps

/-! ## An array as its slabs -/

section Parts

variable (c : Thread nD τ) {sp : Space} {sh : Shape} {e : EltTy} (m : Memref sig c.2.kind sp sh e) (q : PosShare TreeShare)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- An array owned at some contents is each of its slabs owned at some contents, -/
theorem slabs_split (X : sh.Idx → Val e) :
    (owns c m q X : sProp 𝕄) ⊢ bigSep Finset.univ fun t => iprop(∃ X, owns c (m.slice (r t) (hr t)) q X) :=
  (owns_rects c m q r hr hd hcov X).trans (BI.bigSep_mono fun t _ => by
    show (owns c (m.slice (r t) (hr t)) q (fun j => X ((r t).emb j)) : sProp 𝕄) ⊢ iprop(∃ X, owns c (m.slice (r t) (hr t)) q X)
    iintro H
    iexists _
    iexact H)

/-- and back. -/
theorem slabs_join [∀ e, Nonempty (Val e)] :
    (bigSep Finset.univ fun t => iprop(∃ X, owns c (m.slice (r t) (hr t)) q X)) ⊢ (iprop(∃ X, owns c m q X) : sProp 𝕄) := by
  refine (BI.bigSep_exists_pi Finset.univ (fun t X => owns c (m.slice (r t) (hr t)) q X)).trans ?_
  iintro ⟨%Xs, H⟩
  iexists (Rect.glue r hcov Xs)
  iapply (owns_of_rects c m q r hr hd hcov (Rect.glue r hcov Xs))
  have hg (t : T) : (fun j => Rect.glue r hcov Xs ((r t).emb j)) = Xs t := funext fun y => Rect.glue_emb r hcov hd Xs t y
  simp only [hg]
  iexact H

end Parts

end Cert.Slab

end
-- ==== Proof.KernelIdealPlan.lean ====
/-
# The exchange: partners, slabs, cells, contents and schedule

32 devices sum their shares of the result in five rounds. In round `r` a device sends its running sum
to the device whose number differs from its own in bit `r`, takes that device's running sum, and adds
the two. A device's running sum alternates between the two slabs of one scratch array; the sum it is
sent in round `r` lands in slab `r` of another. Before anything is sent a device tells its five
partners, on the barrier semaphore, that their landing slabs may be written.
-/
module

public import proofs.«01_k».proof.Proof.Slab
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's resource algebra: a barrier cell has one duty per partner, so duties are numbered by
    rounds. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

/-- The device whose number differs from `c`'s in bit `r`. -/
def peer (r : Fin 5) (c : Dev nD) : Dev nD := ⟨(c.val ^^^ 2 ^ r.val) % 32, Nat.mod_lt _ (by decide)⟩

theorem peer_peer (r : Fin 5) (c : Dev nD) : peer r (peer r c) = c := by revert r c; decide +kernel

/-- Exchanging with the partner of round `r`, as a permutation of the devices. -/
def peerEquiv (r : Fin 5) : Dev nD ≃ Dev nD := ⟨peer r, peer r, peer_peer r, peer_peer r⟩

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 2 c := by revert c; decide +kernel
theorem dev9_eq (c : Dev nD) : (⟨k0_dev9 c, k0_dev9_lt c⟩ : Dev nD) = peer 3 c := by revert c; decide +kernel
theorem dev10_eq (c : Dev nD) : (⟨k0_dev10 c, k0_dev10_lt c⟩ : Dev nD) = peer 4 c := by revert c; decide +kernel

/-! ## Slabs and cells -/

theorem acc_inb (k : Fin 2) : ∀ a, (![k.val, 0, 0] : Fin 3 → Nat) a + S1x256x256.size a ≤ S2x256x256.size a := by
  revert k; decide
theorem com_inb (k : Fin 5) : ∀ a, (![k.val, 0, 0] : Fin 3 → Nat) a + S1x256x256.size a ≤ S5x256x256.size a := by
  revert k; decide

abbrev accR (k : Fin 2) : Rect S2x256x256 := Rect.unit (s := S2x256x256) ![k.val, 0, 0] S1x256x256.size (acc_inb k)
abbrev comR (k : Fin 5) : Rect S5x256x256 := Rect.unit (s := S5x256x256) ![k.val, 0, 0] S1x256x256.size (com_inb k)

/-- Slab `k` of the array of running sums, and slab `k` of the landing array. -/
abbrev accM (k : Fin 2) : Memref sig .tc .vmem S1x256x256 .bf16 := (Memref.whole cc0_scratch0).slice (accR k) (fun _ => rfl)
abbrev comM (k : Fin 5) : Memref sig .tc .vmem S1x256x256 .bf16 := (Memref.whole cc0_scratch1).slice (comR k) (fun _ => rfl)

/-- The slab that holds the running sum sent in round `r`. -/
abbrev slot (r : Fin 5) : Fin 2 := ⟨r.val % 2, Nat.mod_lt _ (by decide)⟩

/-- The barrier semaphore, and the send and receive semaphores of round `r`. -/
abbrev barS : Sem sig := (SemArray.scalar (sig.barrier 0 rfl) : Sems sig S_).sem
abbrev sendS (r : Fin 5) : DmaSem sig := ⟨4 + r.val, by have := r.isLt; show 4 + r.val < 14; omega⟩
abbrev recvS (r : Fin 5) : DmaSem sig := ⟨9 + r.val, by have := r.isLt; show 9 + r.val < 14; omega⟩

abbrev barCell (c : Dev nD) : GSem nD τ sig := ((c : Thread nD τ), .reg barS)
abbrev sendCell (r : Fin 5) (c : Dev nD) : GSem nD τ sig := ((c : Thread nD τ), .dma (sendS r))
abbrev recvCell (r : Fin 5) (c : Dev nD) : GSem nD τ sig := ((c : Thread nD τ), .dma (recvS r))

/-- The kernel's own semaphores, and with the barrier semaphore all those of the exchange. -/
abbrev osem : Fin 5 ⊕ Fin 5 → SemLoc sig := fun | .inl r => .dma (sendS r) | .inr r => .dma (recvS r)
abbrev csem : Fin 1 ⊕ (Fin 5 ⊕ Fin 5) → SemLoc sig := fun | .inl _ => .reg barS | .inr k => osem k
abbrev kcell (ck : Dev nD × (Fin 1 ⊕ (Fin 5 ⊕ Fin 5))) : GSem nD τ sig := ((ck.1 : Thread nD τ), csem ck.2)

/-- What a semaphore is for. -/
inductive Role where
  | bar
  | send (r : Fin 5)
  | recv (r : Fin 5)
  | other
deriving DecidableEq

def role : SemLoc sig → Role
  | .reg _ => .bar
  | .dma q =>
    if h : q.val < 4 then .other
    else if h' : q.val < 9 then .send ⟨q.val - 4, by omega⟩
    else .recv ⟨(q.val - 9) % 5, Nat.mod_lt _ (by decide)⟩

theorem role_send (r : Fin 5) : role (.dma (sendS r)) = .send r := by revert r; decide
theorem role_recv (r : Fin 5) : role (.dma (recvS r)) = .recv r := by revert r; decide
theorem role_bar : role (.reg barS) = .bar := rfl

/-- The units a copy of one slab credits. -/
abbrev N : ℕ := ((comM 0).squeeze S256x256 squeezes_S1x256x256_S256x256).view.dmaCredit
theorem N_pos : 0 < N := View.dmaCredit_pos _ (by decide)
theorem credit_com (r : Fin 5) : ((comM r).squeeze S256x256 squeezes_S1x256x256_S256x256).view.dmaCredit = N := rfl
theorem credit_acc (k : Fin 2) : ((accM k).squeeze S256x256 squeezes_S1x256x256_S256x256).view.dmaCredit = N := rfl

/-! ## Contents -/

/-- What one slab holds. -/
abbrev Slab (F : FTy → Type) : Type := S1x256x256.Idx → Elt F .bf16

/-- A device's blocks of the arguments, as its body finds them. -/
def xs (c : Dev nD) : (cc0_stg0_0 : Ref sig .tc).ty.Contents (Elt F) :=
  (win0_0.blk (0 : Fin 1)).view.read (Elt F) (m ((c : Thread nD τ).loc main_arg0))
def is (c : Dev nD) : (cc0_stg1_0 : Ref sig .tc).ty.Contents (Elt F) :=
  (win0_1.blk (0 : Fin 1)).view.read (Elt F) (m ((c : Thread nD τ).loc main_arg2))
def ws (c : Dev nD) : (cc0_stg2_0 : Ref sig .tc).ty.Contents (Elt F) :=
  (win0_2.blk (0 : Fin 1)).view.read (Elt F) (m ((c : Thread nD τ).loc main_arg3))

/-- The first of the two experts device `c` holds. -/
def first (c : Dev nD) : BitVec 32 :=
  Scalar.muli (Scalar.remsi (Scalar.divsi (Dev.word c) 1#32) 32#32) 2#32

/-- The two experts' weights a device holds. -/
def wAt0 (c : Dev nD) : S1x128x256.Idx → Elt F .bf16 :=
  (Memref.whole cc0_stg2_0 : Memref sig .tc .vmem S2x128x256 .bf16).view.readAt (Elt F)
    (Rect.unit (s := S2x128x256) ![0, 0, 0] S1x128x256.size inb_S2x128x256_S1x128x256_0_0_0).toLoadRect (ws m c)
def wAt1 (c : Dev nD) : S1x128x256.Idx → Elt F .bf16 :=
  (Memref.whole cc0_stg2_0 : Memref sig .tc .vmem S2x128x256 .bf16).view.readAt (Elt F)
    (Rect.unit (s := S2x128x256) ![1, 0, 0] S1x128x256.size inb_S2x128x256_S1x128x256_1_0_0).toLoadRect (ws m c)

/-- Device `c`'s running sum before round `r`: its own share first, then what it held plus what its
    partner held. -/
def part : ℕ → Dev nD → Slab F
  | 0, c => k0_pay4 (k0_pay2 (xs m c)) (k0_pay3 (is m c)) (first c) (wAt0 m c) (wAt1 m c)
  | r + 1, c => k0_pay5 (part r c) (part r (peer (Fin.ofNat 5 r) c))

/-- The kernel's result on device `c`. -/
def outAt (c : Dev nD) : (cc0_stg3_0 : Ref sig .tc).ty.Contents (Elt F) := k0_pay1 (part m 5 c)

/-! ## The schedule -/

/-- What a device is handed with partner `d`'s signal: the slab it sends to in round `d`. -/
def barPay (d : Fin 5) (c : Dev nD) : sProp 𝕄 := iprop(∃ X, owns (peer d c : Thread nD τ) (comM d) fullShare X)
/-- What comes with the arrival of round `r`: the landing slab, holding the partner's running sum. -/
def recvPay (r : Fin 5) (c : Dev nD) : sProp 𝕄 := owns (c : Thread nD τ) (comM r) fullShare (part m r.val (peer r c))
/-- What comes back when round `r`'s transfer has left: the half of the sent slab lent to it. -/
def sendPay (r : Fin 5) (c : Dev nD) : sProp 𝕄 := owns (c : Thread nD τ) (accM (slot r)) fullShare.left (part m r.val c)

instance barPay_storable (d : Fin 5) (c : Dev nD) : BI.Storable (upEmb : UEmb _ 𝕄) (barPay (F := F) d c) := by unfold barPay; infer_instance
instance recvPay_storable (r : Fin 5) (c : Dev nD) : BI.Storable (upEmb : UEmb _ 𝕄) (recvPay m r c) := by unfold recvPay; infer_instance
instance sendPay_storable (r : Fin 5) (c : Dev nD) : BI.Storable (upEmb : UEmb _ 𝕄) (sendPay m r c) := by unfold sendPay; infer_instance

/-- The duties of a cell, by what it is for. -/
def roleDuties : Role → Finset (Fin 5)
  | .bar => Finset.univ
  | .send _ => {0}
  | .recv _ => {0}
  | .other => ∅

def roleAmount : Role → ℕ
  | .bar => 1
  | _ => N

def rolePayload (c : Dev nD) (d : Fin 5) : Role → sProp 𝕄
  | .bar => barPay d c
  | .send r => sendPay m r c
  | .recv r => recvPay m r c
  | .other => iprop(emp)

/-- Every cell is used for one round: a barrier cell takes a unit from each partner, a send or receive
    cell one transfer's units. -/
def sched : Rounds.Schedule (GSem nD τ sig) (Fin 5) 𝕄 where
  duties g r := if r = 0 ∧ g.1.2 = .tc then roleDuties (role g.2) else ∅
  unitless _ := False
  amount g _ _ := roleAmount (role g.2)
  payload g _ d := rolePayload m g.1.1 d (role g.2)
  amount_pos g _ _ _ := by
    unfold roleAmount; split
    · exact Nat.one_pos
    · exact N_pos

instance sched_payload_storable (g : GSem nD τ sig) (r : ℕ) (d : Fin 5) :
    BI.Storable (upEmb : UEmb _ 𝕄) ((sched m).payload g r d) := by
  show BI.Storable upEmb (rolePayload m g.1.1 d (role g.2))
  unfold rolePayload
  split <;> infer_instance

section Tables
variable (r : Fin 5) (c : Dev nD)

theorem duties_bar : (sched m).duties (barCell c) 0 = Finset.univ := by
  dsimp only [sched]; exact if_pos ⟨rfl, rfl⟩
theorem duties_send : (sched m).duties (sendCell r c) 0 = {0} := by
  dsimp only [sched]; rw [if_pos ⟨rfl, rfl⟩, role_send]; rfl
theorem duties_recv : (sched m).duties (recvCell r c) 0 = {0} := by
  dsimp only [sched]; rw [if_pos ⟨rfl, rfl⟩, role_recv]; rfl
theorem duties_later (g : GSem nD τ sig) : ∀ r, 1 ≤ r → (sched m).duties g r = ∅ :=
  fun r hr => if_neg fun h => by omega

theorem amount_bar (d : Fin 5) : (sched m).amount (barCell c) 0 d = 1 := rfl
theorem amount_send (d : Fin 5) : (sched m).amount (sendCell r c) 0 d = N := by
  show roleAmount (role (.dma (sendS r))) = N; rw [role_send]; rfl
theorem amount_recv (d : Fin 5) : (sched m).amount (recvCell r c) 0 d = N := by
  show roleAmount (role (.dma (recvS r))) = N; rw [role_recv]; rfl

theorem payload_bar (d : Fin 5) : (sched m).payload (barCell c) 0 d = barPay d c := rfl
theorem payload_send (d : Fin 5) : (sched m).payload (sendCell r c) 0 d = sendPay m r c := by
  show rolePayload m c d (role (.dma (sendS r))) = _; rw [role_send]; rfl
theorem payload_recv (d : Fin 5) : (sched m).payload (recvCell r c) 0 d = recvPay m r c := by
  show rolePayload m c d (role (.dma (recvS r))) = _; rw [role_recv]; rfl

theorem expect_bar : (sched m).expect (barCell c) 0 = 5 := by
  unfold Schedule.expect Schedule.amountOf
  rw [duties_bar, Finset.sum_congr rfl fun d _ => amount_bar m c d]; decide
theorem expect_send : (sched m).expect (sendCell r c) 0 = N := by
  unfold Schedule.expect Schedule.amountOf; rw [duties_send, Finset.sum_singleton, amount_send]
theorem expect_recv : (sched m).expect (recvCell r c) 0 = N := by
  unfold Schedule.expect Schedule.amountOf; rw [duties_recv, Finset.sum_singleton, amount_recv]

theorem rest_bar : bigSep ((sched m).duties (barCell c) 0 \ ∅) (fun d => (sched m).payload (barCell c) 0 d)
    = (bigSep Finset.univ fun d => barPay d c : sProp 𝕄) := by
  rw [Finset.sdiff_empty, duties_bar]; rfl
theorem rest_send : bigSep ((sched m).duties (sendCell r c) 0 \ ∅) (fun d => (sched m).payload (sendCell r c) 0 d) = sendPay m r c := by
  rw [Finset.sdiff_empty, duties_send, bigSep_singleton, payload_send]
theorem rest_recv : bigSep ((sched m).duties (recvCell r c) 0 \ ∅) (fun d => (sched m).payload (recvCell r c) 0 d) = recvPay m r c := by
  rw [Finset.sdiff_empty, duties_recv, bigSep_singleton, payload_recv]

end Tables

/-! ## What a device owes, and the levels -/

/-- The transfers of the rounds in `l`, owed to the partners' receive cells. -/
def owedRecv (c : Dev nD) : List (Fin 5) → CellTallies nD τ sig Unit
  | [] => 0
  | r :: l => owedRecv c l + tallyAt (recvCell r (peer r c)) () N

/-- Every round's transfer, and the signals to the partners in `l`. -/
def owedBar (c : Dev nD) : List (Fin 5) → CellTallies nD τ sig Unit
  | [] => owedRecv c [0, 1, 2, 3, 4]
  | d :: l => owedBar c l + tallyAt (barCell (peer d c)) () 1

/-- What device `c` owes at launch. -/
def owed₀ (c : Dev nD) : CellTallies nD τ sig Unit := owedBar c [0, 1, 2, 3, 4]

def Lev (g : GSem nD τ sig) : Finset Unit := if g.1.2 = .tc then {()} else ∅

def roleLevel : Role → ℕ
  | .bar => 1
  | .recv r => 2 + r.val
  | _ => 0

/-- Waits ordered so that each is for something paid by a device that waits for lower levels only: the
    staging and send cells lowest, then the barrier, then the rounds in their order. -/
def lv (g : GSem nD τ sig) (_ : Unit) : ℕ := roleLevel (role g.2)

theorem Lev_of_ne (g : GSem nD τ sig) (h : g.1.2 ≠ .tc) : Lev g = ∅ := if_neg h
theorem Lev_tc (c : Dev nD) (sm : SemLoc sig) : Lev ((c : Thread nD τ), sm) = {()} := if_pos rfl

theorem lv_recv (r : Fin 5) (c : Dev nD) : lv (recvCell r c) () = 2 + r.val := by
  show roleLevel (role (.dma (recvS r))) = _; rw [role_recv]; rfl
theorem lv_send (r : Fin 5) (c : Dev nD) : lv (sendCell r c) () = 0 := by
  show roleLevel (role (.dma (sendS r))) = _; rw [role_send]; rfl
theorem lv_bar (c : Dev nD) : lv (barCell c) () = 1 := rfl

theorem owedRecv_pos {c : Dev nD} {l : List (Fin 5)} {g : GSem nD τ sig} {u : Unit} (h : 0 < owedRecv c l g u) :
    ∃ r ∈ l, g = recvCell r (peer r c) := by
  induction l with
  | nil => exact absurd h (Nat.lt_irrefl 0)
  | cons r l ih =>
    have h' : 0 < owedRecv c l g u + tallyAt (recvCell r (peer r c)) () N g u := h
    rw [tallyAt_apply] at h'
    by_cases hg : g = recvCell r (peer r c) ∧ u = ()
    · exact ⟨r, List.mem_cons_self, hg.1⟩
    · rw [if_neg hg] at h'
      obtain ⟨r', hr', e⟩ := ih h'
      exact ⟨r', List.mem_cons_of_mem _ hr', e⟩

theorem owedBar_pos {c : Dev nD} {l : List (Fin 5)} {g : GSem nD τ sig} {u : Unit} (h : 0 < owedBar c l g u) :
    (∃ r, g = recvCell r (peer r c)) ∨ ∃ d, g = barCell (peer d c) := by
  induction l with
  | nil => obtain ⟨r, -, e⟩ := owedRecv_pos h; exact Or.inl ⟨r, e⟩
  | cons d l ih =>
    have h' : 0 < owedBar c l g u + tallyAt (barCell (peer d c)) () 1 g u := h
    rw [tallyAt_apply] at h'
    by_cases hg : g = barCell (peer d c) ∧ u = ()
    · exact Or.inr ⟨d, hg.1⟩
    · rw [if_neg hg] at h'; exact ih h'

/-- A wait below every round still owed. -/
theorem mayWait_recv (c : Dev nD) (sm : SemLoc sig) (l : List (Fin 5))
    (h : ∀ r ∈ l, lv ((c : Thread nD τ), sm) () < 2 + r.val) :
    (levAts Lev lv : sProp 𝕄) ⊢ MayWait (c : Thread nD τ) sm () (owedRecv c l) :=
  MayOwe.of_cut (L := Lev) (lev := lv) (lv ((c : Thread nD τ), sm) ())
    (fun p hp => by rw [Finset.mem_singleton.mp hp, Lev_tc]; exact Finset.mem_singleton_self _)
    (fun g u hg => by obtain ⟨r, -, rfl⟩ := owedRecv_pos hg; rw [Lev_tc]; exact Finset.mem_singleton_self _)
    (fun p hp => by rw [Finset.mem_singleton.mp hp])
    (fun g u hg => by obtain ⟨r, hr, rfl⟩ := owedRecv_pos hg; rw [lv_recv]; exact h r hr)

/-- A wait at the lowest level, with everything owed. -/
theorem mayWait_all (c : Dev nD) (sm : SemLoc sig) (h : lv ((c : Thread nD τ), sm) () = 0) :
    (levAts Lev lv : sProp 𝕄) ⊢ MayWait (c : Thread nD τ) sm () (owed₀ c) :=
  MayOwe.of_cut (L := Lev) (lev := lv) 0
    (fun p hp => by rw [Finset.mem_singleton.mp hp, Lev_tc]; exact Finset.mem_singleton_self _)
    (fun g u hg => by
      rcases owedBar_pos hg with ⟨r, rfl⟩ | ⟨d, rfl⟩ <;> (rw [Lev_tc]; exact Finset.mem_singleton_self _))
    (fun p hp => by rw [Finset.mem_singleton.mp hp]; exact h.le)
    (fun g u hg => by
      rcases owedBar_pos hg with ⟨r, rfl⟩ | ⟨d, rfl⟩
      · rw [lv_recv]; omega
      · rw [lv_bar]; decide)

end Cert.KernelIdeal.Exchange

end
-- ==== Proof.KernelIdealSteps.lean ====
/-
# The exchange, one step at a time

The rule of each of the exchange's effects, stated once for a round: a signal to a partner, the wait
for all five partners, a send, the wait for a send to leave, and the wait for an arrival. The waits
also close the cell waited on, which is used no further.
-/
module

public import proofs.«01_k».proof.Proof.KernelIdealPlan

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- A device and one of its cells. -/
abbrev Cell : Type := Dev nD × (Fin 1 ⊕ (Fin 5 ⊕ Fin 5))

/-- Every cell of the exchange is under its protocol and at its first round. -/
def records (K : Cell → ℕ) : sProp 𝕄 :=
  bigSep Finset.univ fun ck : Cell => iprop(cellInv ER (sched m) (K ck) (kcell ck) ∗ reached ER (kcell ck) 0)

instance (K : Cell → ℕ) : Persistent (records m K) := by unfold records; infer_instance

theorem record_at (K : Cell → ℕ) (ck : Cell) :
    records m K ⊢ iprop(cellInv ER (sched m) (K ck) (kcell ck) ∗ reached ER (kcell ck) 0) :=
  bigSep_elim (Finset.mem_univ ck)

theorem record_bar (K : Cell → ℕ) (c : Dev nD) :
    records m K ⊢ iprop(cellInv ER (sched m) (K (c, .inl 0)) (barCell c) ∗ reached ER (barCell c) 0) := record_at m K (c, .inl 0)
theorem record_send (K : Cell → ℕ) (r : Fin 5) (c : Dev nD) :
    records m K ⊢ iprop(cellInv ER (sched m) (K (c, .inr (.inl r))) (sendCell r c) ∗ reached ER (sendCell r c) 0) := record_at m K (c, .inr (.inl r))
theorem record_recv (K : Cell → ℕ) (r : Fin 5) (c : Dev nD) :
    records m K ⊢ iprop(cellInv ER (sched m) (K (c, .inr (.inr r))) (recvCell r c) ∗ reached ER (recvCell r c) 0) := record_at m K (c, .inr (.inr r))

/-- What device `c` owes, whatever it has waited for. -/
def debt (c : Dev nD) (O : CellTallies nD τ sig Unit) : sProp 𝕄 := iprop(∃ W, owes (c : Thread nD τ) O W)

/-! ## The steps -/

section Steps

variable (K : Cell → ℕ) (c : Dev nD) {α : Type} {Q : α → sProp (MT nD τ sig Unit (Elt F) ℕ UU ℕ)}
  {k : PUnit → Prog (TpuEff nD τ sig (Elt F) Λ₀ .tc) α}

local notation "WP" => wp frame (wpE (defs₀ (F := F)) 𝒱₀ (c : Thread nD τ) none) Set.univ

/-- The signal to partner `d`: it hands the partner the slab the partner sends to. -/
theorem step_signal (d : Fin 5) (l : List (Fin 5)) (n : Dev nD) (hn : n = peer d c) (j : ℕ) (hj : 1 = j) :
    (iprop(records m K ∗ debt c (owedBar c (d :: l)) ∗ dutyTok ER (barCell (peer d c)) 0 d
        ∗ (∃ X, owns (c : Thread nD τ) (comM d) fullShare X)) : sProp 𝕄)
      ⊢ iprop((debt c (owedBar c l) -∗ WP (k ⟨⟩) Q) -∗ WP (.op (.semSignal (n : Thread nD τ) barS (j : ℕ)) k) Q) := by
  subst hn
  subst hj
  unfold debt
  iintro ⟨#HR, ⟨%W, HO⟩, Ht, HX⟩ Hk
  ihave H := (record_bar m K (peer d c)) $$ HR
  icases H with ⟨#HI, #Hr⟩
  iapply (Rounds.wp_signal 𝒱₀ ER (sched m) (c : Thread nD τ) none (dst := (peer d c : Thread nD τ)) (κ := K (peer d c, .inl 0))
      (d := d) (by rw [duties_bar]; exact Finset.mem_univ _) (amount_bar m (peer d c) d) () (owedBar c l) rfl) $$ [HO Ht HX]
  · isplitr; · iexact HI
    isplitl [HO]; · iexact HO
    isplitl [Ht]; · iexact Ht
    isplitl [HX]
    · rw [payload_bar]; unfold barPay; rw [peer_peer]; iexact HX
    iexact Hr
  iintro HO
  iapply Hk
  iexists W
  iexact HO

/-- The wait for all five partners' signals: the five slabs the device sends to are its to write. -/
theorem step_bar (j : ℕ) (hj : j = 5) :
    (iprop(records m K ∗ levAts Lev lv ∗ cred (tallyAt (barCell c) () 5) ∗ debt c (owedBar c [])
        ∗ atPos ER (barCell c) 0 ∅ 0) : sProp 𝕄)
      ⊢ iprop(((debt c (owedRecv c [0, 1, 2, 3, 4]) ∗ semVal (barCell c) 0 ∗ bigSep Finset.univ fun d => barPay d c) -∗ WP (k ⟨⟩) Q)
        -∗ WP (.op (.semWait barS (j : ℕ)) k) Q) := by
  subst hj
  unfold debt
  iintro ⟨#HR, #Hlev, Hc, ⟨%W, HO⟩, Hat⟩ Hk
  ihave H := (record_bar m K c) $$ HR
  icases H with ⟨#HI, #Hr⟩
  iapply (Rounds.wp_wait_rest_token 𝒱₀ ER (sched m) (c : Thread nD τ) none (κ := K (c, .inl 0))
      (wpE_semWait_eq 𝒱₀ (c : Thread nD τ) none Set.univ) (Set.mem_univ _) () (O := owedRecv c [0, 1, 2, 3, 4]) (W := W) (R := 0) (m := 0) (T := ∅)
      (by rw [expect_bar])) $$ [Hc HO Hat]
  · isplitr; · iexact HI
    isplitl [Hc]; · iexact Hc
    isplitl [HO]; · iexact HO
    isplitr; · iapply (mayWait_recv c (.reg barS) _ (fun r _ => by rw [lv_bar]; omega)); iexact Hlev
    iexact Hat
  iintro ⟨HO, Hat, -, Hpay⟩
  ihave Hp := (Entails.of_eq (rest_bar m c)) $$ Hpay
  imod (Rounds.cell_close ER (sched m) (Set.mem_univ (K (c, .inl 0))) (fun h => h) (R := 0 + 1) (duties_later m (barCell c))) $$ [Hat] with Hz
  · isplitr; · iexact HI
    iexact Hat
  iapply Hk
  isplitl [HO]; · iexists _; iexact HO
  isplitl [Hz] <;> iassumption

/-- The send of round `r`: half of the running sum's slab is lent, the partner's landing slab given up. -/
theorem step_send (r : Fin 5) (l : List (Fin 5)) (n : Dev nD) (hn : n = peer r c)
    {hsc : ((comM r).squeeze S256x256 squeezes_S1x256x256_S256x256 : Memref sig (Dev.tc n : Thread nD τ).2.kind _ _ _).view.ref.isScScratch = false}
    {hsrc : ((accM (slot r)).squeeze S256x256 squeezes_S1x256x256_S256x256).view.WordExact}
    {hdst : ((comM r).squeeze S256x256 squeezes_S1x256x256_S256x256).view.WordExact}
    {hsem : DmaTarget.Typed .vmem (.dma (recvS r)) (.remote (Dev.tc n : Thread nD τ) ((comM r).squeeze S256x256 squeezes_S1x256x256_S256x256) (.dma (sendS r)) hsc)} :
    (iprop(records m K ∗ sendPay m r c ∗ barPay r c ∗ debt c (owedRecv c (r :: l))
        ∗ dutyTok ER (sendCell r c) 0 0 ∗ dutyTok ER (recvCell r (peer r c)) 0 0) : sProp 𝕄)
      ⊢ iprop(((cred (tallyAt (sendCell r c) () N) ∗ debt c (owedRecv c l)) -∗ WP (k ⟨⟩) Q)
        -∗ WP (.op (.enqueueDma ((accM (slot r)).squeeze S256x256 squeezes_S1x256x256_S256x256)
            (.remote (Dev.tc n : Thread nD τ) ((comM r).squeeze S256x256 squeezes_S1x256x256_S256x256) (.dma (sendS r)) hsc) (.dma (recvS r)) hsrc hdst hsem) k) Q) := by
  subst hn
  unfold debt barPay
  iintro ⟨#HR, Hs, ⟨%Y, Hd⟩, ⟨%W, HO⟩, Ht₁, Ht₂⟩ Hk
  ihave H := (record_send m K r c) $$ HR
  icases H with ⟨#HI₁, #Hr₁⟩
  ihave H := (record_recv m K r (peer r c)) $$ HR
  icases H with ⟨#HI₂, #Hr₂⟩
  iapply (Slab.wp_send_slab 𝒱₀ (c : Thread nD τ) none Set.univ ER (sched m) (c' := (peer r c : Thread nD τ)) (sS := .dma (sendS r)) (sem := .dma (recvS r)) (accM (slot r)) (comM r)
      squeezes_S1x256x256_S256x256 squeezes_S1x256x256_S256x256 (q := fullShare.left) (part m r.val c) Y
      (r₁ := 0) (r₂ := 0) (d₁ := 0) (d₂ := 0) (κ₁ := K (c, .inr (.inl r))) (κ₂ := K (peer r c, .inr (.inr r)))
      (by rw [duties_send]; exact Finset.mem_singleton_self _) (by rw [duties_recv]; exact Finset.mem_singleton_self _)
      () () N (credit_com r) (amount_send m r c 0) (amount_recv m r (peer r c) 0) (owedRecv c l) rfl (W := W)
      (by rw [payload_send]; exact .rfl)
      (by rw [payload_recv]; unfold recvPay; rw [peer_peer])) $$ [Hs Hd HO Ht₁ Ht₂]
  · isplitr; · iexact HI₁
    isplitr; · iexact HI₂
    isplitl [Hs]; · unfold sendPay; iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W
  iexact HO

/-- The wait for round `r`'s transfer to have left: the lent half comes back. -/
theorem step_sent (r : Fin 5) (l : List (Fin 5)) {κ' : Kind} {sp sp' : Space} {s s' : Shape} {e e' : EltTy}
    {dst : Memref sig κ' sp' s' e'} (hN : dst.view.dmaCredit = N)
    {src : Memref sig .tc sp s e} {hsrc : src.view.WordExact} {hdst : dst.view.WordExact} :
    (iprop(records m K ∗ levAts Lev lv ∗ cred (tallyAt (sendCell r c) () N) ∗ debt c (owedRecv c l)
        ∗ atPos ER (sendCell r c) 0 ∅ 0) : sProp 𝕄)
      ⊢ iprop(((debt c (owedRecv c l) ∗ semVal (sendCell r c) 0 ∗ sendPay m r c) -∗ WP (k ⟨⟩) Q)
        -∗ WP (.op (.waitDma2 (sendS r) src dst hsrc hdst) k) Q) := by
  unfold debt
  iintro ⟨#HR, #Hlev, Hc, ⟨%W, HO⟩, Hat⟩ Hk
  ihave H := (record_send m K r c) $$ HR
  icases H with ⟨#HI, #Hr⟩
  iapply (Rounds.wp_wait_rest_token 𝒱₀ ER (sched m) (c : Thread nD τ) none (κ := K (c, .inr (.inl r))) (k' := dst.view.dmaCredit)
      (wpE_waitDma2_eq 𝒱₀ (c : Thread nD τ) none Set.univ) (Set.mem_univ _) () (O := owedRecv c l) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · iapply (mayWait_recv c (.dma (sendS r)) l (fun r' _ => by rw [lv_send]; omega)); iexact Hlev
    iexact Hat
  iintro ⟨HO, Hat, -, Hpay⟩
  ihave Hp := (Entails.of_eq (rest_send m r c)) $$ Hpay
  imod (Rounds.cell_close ER (sched m) (Set.mem_univ (K (c, .inr (.inl r)))) (fun h => h) (R := 0 + 1) (duties_later m (sendCell r c))) $$ [Hat] with Hz
  · isplitr; · iexact HI
    iexact Hat
  iapply Hk
  isplitl [HO]; · iexists _; iexact HO
  isplitl [Hz] <;> iassumption

/-- The wait for round `r`'s arrival: the landing slab comes with the partner's running sum. -/
theorem step_recv (r : Fin 5) (l : List (Fin 5)) (hl : ∀ r' ∈ l, r < r') {κ' : Kind} {sp sp' : Space} {s s' : Shape} {e e' : EltTy}
    {dst : Memref sig κ' sp' s' e'} (hN : dst.view.dmaCredit = N)
    {src : Memref sig .tc sp s e} {hsrc : src.view.WordExact} {hdst : dst.view.WordExact} :
    (iprop(records m K ∗ levAts Lev lv ∗ cred (tallyAt (recvCell r c) () N) ∗ debt c (owedRecv c l)
        ∗ atPos ER (recvCell r c) 0 ∅ 0) : sProp 𝕄)
      ⊢ iprop(((debt c (owedRecv c l) ∗ semVal (recvCell r c) 0 ∗ recvPay m r c) -∗ WP (k ⟨⟩) Q)
        -∗ WP (.op (.waitDma2 (recvS r) src dst hsrc hdst) k) Q) := by
  unfold debt
  iintro ⟨#HR, #Hlev, Hc, ⟨%W, HO⟩, Hat⟩ Hk
  ihave H := (record_recv m K r c) $$ HR
  icases H with ⟨#HI, #Hr⟩
  iapply (Rounds.wp_wait_rest_token 𝒱₀ ER (sched m) (c : Thread nD τ) none (κ := K (c, .inr (.inr r))) (k' := dst.view.dmaCredit)
      (wpE_waitDma2_eq 𝒱₀ (c : Thread nD τ) none Set.univ) (Set.mem_univ _) () (O := owedRecv c l) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr
    · iapply (mayWait_recv c (.dma (recvS r)) l (fun r' h => by rw [lv_recv]; have := hl r' h; omega)); iexact Hlev
    iexact Hat
  iintro ⟨HO, Hat, -, Hpay⟩
  ihave Hp := (Entails.of_eq (rest_recv m r c)) $$ Hpay
  imod (Rounds.cell_close ER (sched m) (Set.mem_univ (K (c, .inr (.inr r)))) (fun h => h) (R := 0 + 1) (duties_later m (recvCell r c))) $$ [Hat] with Hz
  · isplitr; · iexact HI
    iexact Hat
  iapply Hk
  isplitl [HO]; · iexists _; iexact HO
  isplitl [Hz] <;> iassumption

end Steps

end Cert.KernelIdeal.Exchange

end
-- ==== Proof.KernelIdealBody.lean ====
/-
# The body of the kernel on one device

The proof data of the kernel's one grid point, and its body run one effect at a time: five signals, the
wait for five signals, the device's own share, then five rounds of sending, receiving and adding.
-/
module

public import proofs.«01_k».proof.Proof.KernelIdealSteps
public import proofs.«01_k».proof.Proof.Gen.KernelIdeal.Points
public import proofs.«01_k».proof.Proof.Gen.KernelIdeal.Frame

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The scratch arrays as their slabs -/

theorem acc_disjoint (k k' : Fin 2) (h : k ≠ k') : Disjoint (accR k).set (accR k').set :=
  Rect.unit_disjoint (0 : Fin 3) (by
    have : k.val ≠ k'.val := fun e => h (Fin.ext e)
    show k.val + 1 ≤ k'.val ∨ k'.val + 1 ≤ k.val
    omega)
theorem com_disjoint (k k' : Fin 5) (h : k ≠ k') : Disjoint (comR k).set (comR k').set :=
  Rect.unit_disjoint (0 : Fin 3) (by
    have : k.val ≠ k'.val := fun e => h (Fin.ext e)
    show k.val + 1 ≤ k'.val ∨ k'.val + 1 ≤ k.val
    omega)

theorem acc_cover : (Finset.univ : Finset (Fin 2)).biUnion (fun k => (accR k).set) = Finset.univ := by
  refine Finset.eq_univ_of_forall fun i => Finset.mem_biUnion.mpr ⟨⟨(i (0 : Fin 3)).val, (i (0 : Fin 3)).isLt⟩, Finset.mem_univ _, Rect.mem_set_unit.mpr fun a => ?_⟩
  have h1 : (i (1 : Fin 3)).val < 256 := (i (1 : Fin 3)).isLt
  have h2 : (i (2 : Fin 3)).val < 256 := (i (2 : Fin 3)).isLt
  fin_cases a
  · exact ⟨le_refl _, Nat.lt_succ_self _⟩
  · exact ⟨Nat.zero_le _, by show (i (1 : Fin 3)).val < 0 + 256; omega⟩
  · exact ⟨Nat.zero_le _, by show (i (2 : Fin 3)).val < 0 + 256; omega⟩
theorem com_cover : (Finset.univ : Finset (Fin 5)).biUnion (fun k => (comR k).set) = Finset.univ := by
  refine Finset.eq_univ_of_forall fun i => Finset.mem_biUnion.mpr ⟨⟨(i (0 : Fin 3)).val, (i (0 : Fin 3)).isLt⟩, Finset.mem_univ _, Rect.mem_set_unit.mpr fun a => ?_⟩
  have h1 : (i (1 : Fin 3)).val < 256 := (i (1 : Fin 3)).isLt
  have h2 : (i (2 : Fin 3)).val < 256 := (i (2 : Fin 3)).isLt
  fin_cases a
  · exact ⟨le_refl _, Nat.lt_succ_self _⟩
  · exact ⟨Nat.zero_le _, by show (i (1 : Fin 3)).val < 0 + 256; omega⟩
  · exact ⟨Nat.zero_le _, by show (i (2 : Fin 3)).val < 0 + 256; omega⟩

theorem two (Φ : Fin 2 → sProp 𝕄) : bigSep Finset.univ Φ = iprop(Φ 0 ∗ Φ 1) := bigSep_univ_eq_bigSepL [0, 1] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A scratch array, whatever it holds. -/
def scr (c : Dev nD) (b : Ref sig .tc) : sProp 𝕄 :=
  iprop(∃ f : Buf (Elt F) ((c : Thread nD τ).loc b), ((c : Thread nD τ).loc b) ↦{fullShare} f)

abbrev accAny (c : Dev nD) (k : Fin 2) : sProp 𝕄 := iprop(∃ X, owns (c : Thread nD τ) (accM k) fullShare X)
abbrev comAny (c : Dev nD) (k : Fin 5) : sProp 𝕄 := iprop(∃ X, owns (c : Thread nD τ) (comM k) fullShare X)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem acc_split (c : Dev nD) : (scr (F := F) c cc0_scratch0 : sProp 𝕄) ⊢ iprop(accAny c 0 ∗ accAny c 1) := by
  rw [← two (accAny c)]
  unfold scr
  iintro ⟨%f, H⟩
  iapply (Slab.slabs_split (c : Thread nD τ) (Memref.whole cc0_scratch0) fullShare accR (fun _ _ => rfl) acc_disjoint acc_cover f)
  rw [owns_whole_eq]
  iexists f
  isplitr; · ipureintro; rfl
  iexact H
theorem acc_join (c : Dev nD) : (iprop(accAny c 0 ∗ accAny c 1) : sProp 𝕄) ⊢ scr c cc0_scratch0 := by
  rw [← two (accAny c)]
  refine (Slab.slabs_join (c : Thread nD τ) (Memref.whole cc0_scratch0) fullShare accR (fun _ _ => rfl) acc_disjoint acc_cover).trans ?_
  unfold scr
  simp only [owns_whole_eq]
  iintro ⟨%X, %f, -, H⟩
  iexists f
  iexact H
theorem com_split (c : Dev nD) : (scr (F := F) c cc0_scratch1 : sProp 𝕄) ⊢ bigSep Finset.univ (comAny c) := by
  unfold scr
  iintro ⟨%f, H⟩
  iapply (Slab.slabs_split (c : Thread nD τ) (Memref.whole cc0_scratch1) fullShare comR (fun _ _ => rfl) com_disjoint com_cover f)
  rw [owns_whole_eq]
  iexists f
  isplitr; · ipureintro; rfl
  iexact H
theorem com_join (c : Dev nD) : (bigSep Finset.univ (comAny c) : sProp 𝕄) ⊢ scr c cc0_scratch1 := by
  refine (Slab.slabs_join (c : Thread nD τ) (Memref.whole cc0_scratch1) fullShare comR (fun _ _ => rfl) com_disjoint com_cover).trans ?_
  unfold scr
  simp only [owns_whole_eq]
  iintro ⟨%X, %f, -, H⟩
  iexists f
  iexact H

theorem halve (c : Dev nD) (k : Fin 2) (X : Slab F) :
    (owns (c : Thread nD τ) (accM k) fullShare X : sProp 𝕄)
      ⊢ iprop(owns (c : Thread nD τ) (accM k) fullShare.left X ∗ owns (c : Thread nD τ) (accM k) fullShare.right X) :=
  (owns_halves (c : Thread nD τ) (accM k) fullShare X).1
theorem unhalve (c : Dev nD) (k : Fin 2) (X : Slab F) :
    (iprop(owns (c : Thread nD τ) (accM k) fullShare.left X ∗ owns (c : Thread nD τ) (accM k) fullShare.right X) : sProp 𝕄)
      ⊢ owns (c : Thread nD τ) (accM k) fullShare X :=
  (owns_halves (c : Thread nD τ) (accM k) fullShare X).2

/-! ## The proof data -/

/-- The state at launch: the given memory, every counter zero. -/
def s₀ : MemSt nD τ sig (Elt F) := ⟨m, fun _ => 0, ρ⟩

/-- The tokens and positions of device `c`. -/
def linear (c : Dev nD) : sProp 𝕄 :=
  iprop(atPos ER (barCell c) 0 ∅ 0 ∗ (bigSep Finset.univ fun r : Fin 5 => atPos ER (sendCell r c) 0 ∅ 0)
    ∗ (bigSep Finset.univ fun r : Fin 5 => atPos ER (recvCell r c) 0 ∅ 0)
    ∗ (bigSep Finset.univ fun d : Fin 5 => dutyTok ER (barCell (peer d c)) 0 d)
    ∗ (bigSep Finset.univ fun r : Fin 5 => dutyTok ER (sendCell r c) 0 0)
    ∗ (bigSep Finset.univ fun r : Fin 5 => dutyTok ER (recvCell r (peer r c)) 0 0))

/-- What device `c` may take of its cells, credited at launch. -/
def credits (c : Dev nD) : sProp 𝕄 :=
  iprop(cred (tallyAt (barCell c) () 5) ∗ bigSep Finset.univ fun r : Fin 5 => cred (tallyAt (recvCell r c) () N))

def start (c : Dev nD) : sProp 𝕄 := iprop((∃ K, records m K ∗ linear c) ∗ credits c ∗ levAts Lev lv)

/-- Every counter of the exchange on device `c` is zero. -/
def zeros (c : Dev nD) : sProp 𝕄 :=
  iprop(semVal (barCell c) 0 ∗ (bigSep Finset.univ fun r : Fin 5 => semVal (sendCell r c) 0)
    ∗ bigSep Finset.univ fun r : Fin 5 => semVal (recvCell r c) 0)

def Φ₀ (c : Dev nD) : sProp 𝕄 := iprop(start m c ∗ scr c cc0_scratch0 ∗ scr c cc0_scratch1)
def Φ₁ (c : Dev nD) : sProp 𝕄 := iprop(zeros (F := F) c ∗ scr c cc0_scratch0 ∗ scr c cc0_scratch1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => is m c
    | ⟨2, _⟩ => ws m c
    | ⟨3, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

/-! ## The body -/

section Body

theorem z2 : (![0, 0] : Fin 2 → Nat) = fun _ => 0 := funext fun a => by fin_cases a <;> rfl

theorem read_x (f : (cc0_stg0_0 : Ref sig .tc).ty.Contents (Elt F)) :
    (Memref.whole cc0_stg0_0 : Memref sig .tc .vmem S256x128 .bf16).view.readAt (Elt F)
      (Rect.unit (s := S256x128) ![0, 0] S256x128.size inb_S256x128_S256x128_0_0).toLoadRect f = f :=
  Memref.readAt_unit_zero (Elt F) cc0_stg0_0 z2 _ f
theorem read_i (f : (cc0_stg1_0 : Ref sig .tc).ty.Contents (Elt F)) :
    (Memref.whole cc0_stg1_0 : Memref sig .tc .vmem S256x1 .i32).view.readAt (Elt F)
      (Rect.unit (s := S256x1) ![0, 0] S256x1.size inb_S256x1_S256x1_0_0).toLoadRect f = f :=
  Memref.readAt_unit_zero (Elt F) cc0_stg1_0 z2 _ f
theorem write_out (f w : (cc0_stg3_0 : Ref sig .tc).ty.Contents (Elt F)) :
    ((Memref.whole cc0_stg3_0 : Memref sig .tc .vmem S256x256 .f32).access
      (Rect.unit (s := S256x256) ![0, 0] S256x256.size inb_S256x256_S256x256_0_0) : View sig .tc _ _ _).write (Elt F) f w Finset.univ = w :=
  Memref.write_access_unit_zero_univ (Elt F) cc0_stg3_0 z2 _ f w

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 (xs m c) ∗ stg c cc0_stg1_0 (is m c)
    ∗ stg c cc0_stg2_0 (ws m c) ∗ stg c cc0_stg3_0 (outAt m c))

set_option maxHeartbeats 4000000 in
set_option maxRecDepth 8000 in
/-- The body, one rule per effect in program order. -/
theorem sound_body (c : Dev nD) (Kt : PUnit → sProp 𝕄) :
    (iprop(bodyPre m ρ c ∗ (bodyPost m ρ c -∗ Kt ⟨⟩)) : sProp 𝕄)
      ⊢ wp frame (wpE (defs₀ (F := F)) 𝒱₀ (c : Thread nD τ) none) Set.univ (bodyAt0 t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre Φ₀ start linear credits
  simp only [five]
  iintro ⟨⟨⟨⟨⟨%K, #HR, HaB, ⟨HaS0, HaS1, HaS2, HaS3, HaS4⟩, ⟨HaV0, HaV1, HaV2, HaV3, HaV4⟩, ⟨HtB0, HtB1, HtB2, HtB3, HtB4⟩,
      ⟨HtS0, HtS1, HtS2, HtS3, HtS4⟩, ⟨HtV0, HtV1, HtV2, HtV3, HtV4⟩⟩, ⟨HcB, HcV0, HcV1, HcV2, HcV3, HcV4⟩, #Hlev⟩, Hacc, Hcom⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xs m c := by rw [hg0]; unfold Dat.before; rw [if_pos (fetch0_0 t0_0)]; rfl
  have hi : g1 = is m c := by rw [hg1]; unfold Dat.before; rw [if_pos (fetch0_1 t0_0)]; rfl
  have hw : g2 = ws m c := by rw [hg2]; unfold Dat.before; rw [if_pos (fetch0_2 t0_0)]; rfl
  subst hx hi hw
  clear hg3
  unfold Dat.owesAt Pipeline.owesWithin
  icases Ho with ⟨%W, %hW, HO⟩
  rw [show (dats m ρ 0 c).owed t0_0.castSucc = owedBar c [0, 1, 2, 3, 4] from rfl]
  ihave HO := (show (owes (c : Thread nD τ) (owedBar c [0, 1, 2, 3, 4]) W : sProp 𝕄) ⊢ debt c (owedBar c [0, 1, 2, 3, 4]) from by
    unfold debt; iintro H; iexists W; iexact H) $$ HO
  ihave Hacc := (acc_split c) $$ Hacc
  ihave Hcom := ((com_split c).trans (Entails.of_eq (five _))) $$ Hcom
  icases Hacc with ⟨⟨%X0, HA0⟩, ⟨%X1, HA1⟩⟩
  icases Hcom with ⟨HC0, HC1, HC2, HC3, HC4⟩
  -- the five signals
  iapply (step_signal m K c 0 [1, 2, 3, 4] _ (dev1_eq c) _ (by decide)) $$ [HO HtB0 HC0]
  · isplitr; · iexact HR
    isplitl [HO]; · iexact HO
    isplitl [HtB0]; · iexact HtB0
    iexact HC0
  iintro HO
  iapply (step_signal m K c 1 [2, 3, 4] _ (dev2_eq c) _ (by decide)) $$ [HO HtB1 HC1]
  · isplitr; · iexact HR
    isplitl [HO]; · iexact HO
    isplitl [HtB1]; · iexact HtB1
    iexact HC1
  iintro HO
  iapply (step_signal m K c 2 [3, 4] _ (dev3_eq c) _ (by decide)) $$ [HO HtB2 HC2]
  · isplitr; · iexact HR
    isplitl [HO]; · iexact HO
    isplitl [HtB2]; · iexact HtB2
    iexact HC2
  iintro HO
  iapply (step_signal m K c 3 [4] _ (dev4_eq c) _ (by decide)) $$ [HO HtB3 HC3]
  · isplitr; · iexact HR
    isplitl [HO]; · iexact HO
    isplitl [HtB3]; · iexact HtB3
    iexact HC3
  iintro HO
  iapply (step_signal m K c 4 [] _ (dev5_eq c) _ (by decide)) $$ [HO HtB4 HC4]
  · isplitr; · iexact HR
    isplitl [HO]; · iexact HO
    isplitl [HtB4]; · iexact HtB4
    iexact HC4
  iintro HO
  -- the wait for the partners
  iapply (step_bar m K c _ (by decide)) $$ [HcB HO HaB]
  · isplitr; · iexact HR
    isplitr; · iexact Hlev
    isplitl [HcB]; · iexact HcB
    isplitl [HO]; · iexact HO
    iexact HaB
  iintro ⟨HO, HzB, HP⟩
  ihave HP := (Entails.of_eq (five _)) $$ HP
  icases HP with ⟨HP0, HP1, HP2, HP3, HP4⟩
  -- the device's own share
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hi; iintro Hi
  rw [read_i]
  iapply (wp_load 𝒱₀ (c : Thread nD τ) none Set.univ (m := Memref.whole cc0_stg2_0) (Finset.subset_univ _)) $$ Hw; iintro Hw
  iapply (wp_load 𝒱₀ (c : Thread nD τ) none Set.univ (m := Memref.whole cc0_stg2_0) (Finset.subset_univ _)) $$ Hw; iintro Hw
  iapply (Slab.wp_load_slab 𝒱₀ (c : Thread nD τ) none Set.univ (Memref.whole cc0_scratch0) (accR 0) (fun _ => rfl) fullShare X0) $$ HA0; iintro HA0
  iapply (Slab.wp_store_slab 𝒱₀ (c : Thread nD τ) none Set.univ (Memref.whole cc0_scratch0) (accR 0) (fun _ => rfl) X0 (part m 0 c)) $$ HA0; iintro HA0
  -- round 0
  ihave HA0 := (halve c 0 (part m 0 c)) $$ HA0
  icases HA0 with ⟨HL, HA0⟩
  iapply (step_send m K c 0 [1, 2, 3, 4] _ (dev6_eq c)) $$ [HL HP0 HO HtS0 HtV0]
  · isplitr; · iexact HR
    isplitl [HL]; · unfold sendPay; iexact HL
    isplitl [HP0]; · iexact HP0
    isplitl [HO]; · iexact HO
    isplitl [HtS0]; · iexact HtS0
    iexact HtV0
  iintro ⟨HcS0, HO⟩
  iapply (step_recv m K c 0 [1, 2, 3, 4] (by decide) (credit_com 0)) $$ [HcV0 HO HaV0]
  · isplitr; · iexact HR
    isplitr; · iexact Hlev
    isplitl [HcV0]; · iexact HcV0
    isplitl [HO]; · iexact HO
    iexact HaV0
  iintro ⟨HO, HzV0, HC0⟩
  ihave HC0 := (show recvPay m 0 c ⊢ owns (c : Thread nD τ) (comM 0) fullShare (part m 0 (peer 0 c)) from .rfl) $$ HC0
  iapply (Slab.wp_load_slab 𝒱₀ (c : Thread nD τ) none Set.univ (Memref.whole cc0_scratch0) (accR 0) (fun _ => rfl) fullShare.right (part m 0 c)) $$ HA0; iintro HA0
  iapply (Slab.wp_load_slab 𝒱₀ (c : Thread nD τ) none Set.univ (Memref.whole cc0_scratch1) (comR 0) (fun _ => rfl) fullShare (part m 0 (peer 0 c))) $$ HC0; iintro HC0
  iapply (Slab.wp_load_slab 𝒱₀ (c : Thread nD τ) none Set.univ (Memref.whole cc0_scratch0) (accR 1) (fun _ => rfl) fullShare X1) $$ HA1; iintro HA1
  iapply (Slab.wp_store_slab 𝒱₀ (c : Thread nD τ) none Set.univ (Memref.whole cc0_scratch0) (accR 1) (fun _ => rfl) X1 (part m 1 c)) $$ HA1; iintro HA1
  -- round 1
  ihave HA1 := (halve c 1 (part m 1 c)) $$ HA1
  icases HA1 with ⟨HL, HA1⟩
  iapply (step_send m K c 1 [2, 3, 4] _ (dev7_eq c)) $$ [HL HP1 HO HtS1 HtV1]
  · isplitr; · iexact HR
    isplitl [HL]; · unfold sendPay; iexact HL
    isplitl [HP1]; · iexact HP1
    isplitl [HO]; · iexact HO
    isplitl [HtS1]; · iexact HtS1
    iexact HtV1
  iintro ⟨HcS1, HO⟩
  iapply (step_sent m K c 0 [2, 3, 4] (credit_acc 0)) $$ [HcS0 HO HaS0]
  · isplitr; · iexact HR
    isplitr; · iexact Hlev
    isplitl [HcS0]; · iexact HcS0
    isplitl [HO]; · iexact HO
    iexact HaS0
  iintro ⟨HO, HzS0, HL⟩
  ihave HL := (show sendPay m 0 c ⊢ owns (c : Thread nD τ) (accM 0) fullShare.left (part m 0 c) from .rfl) $$ HL
  ihave HA0 := (unhalve c 0 (part m 0 c)) $$ [HL HA0]
  · isplitl [HL] <;> iassumption
  iapply (step_recv m K c 1 [2, 3, 4] (by decide) (credit_com 1)) $$ [HcV1 HO HaV1]
  · isplitr; · iexact HR
    isplitr; · iexact Hlev
    isplitl [HcV1]; · iexact HcV1
    isplitl [HO]; · iexact HO
    iexact HaV1
  iintro ⟨HO, HzV1, HC1⟩
  ihave HC1 := (show recvPay m 1 c ⊢ owns (c : Thread nD τ) (comM 1) fullShare (part m 1 (peer 1 c)) from .rfl) $$ HC1
  iapply (Slab.wp_load_slab 𝒱₀ (c : Thread nD τ) none Set.univ (Memref.whole cc0_scratch0) (accR 1) (fun _ => rfl) fullShare.right (part m 1 c)) $$ HA1; iintro HA1
  iapply (Slab.wp_load_slab 𝒱₀ (c : Thread nD τ) none Set.univ (Memref.whole cc0_scratch1) (comR 1) (fun _ => rfl) fullShare (part m 1 (peer 1 c))) $$ HC1; iintro HC1
  iapply (Slab.wp_load_slab 𝒱₀ (c : Thread nD τ) none Set.univ (Memref.whole cc0_scratch0) (accR 0) (fun _ => rfl) fullShare (part m 0 c)) $$ HA0; iintro HA0
  iapply (Slab.wp_store_slab 𝒱₀ (c : Thread nD τ) none Set.univ (Memref.whole cc0_scratch0) (accR 0) (fun _ => rfl) (part m 0 c) (part m 2 c)) $$ HA0; iintro HA0
  -- round 2
  ihave HA0 := (halve c 0 (part m 2 c)) $$ HA0
  icases HA0 with ⟨HL, HA0⟩
  iapply (step_send m K c 2 [3, 4] _ (dev8_eq c)) $$ [HL HP2 HO HtS2 HtV2]
  · isplitr; · iexact HR
    isplitl [HL]; · unfold sendPay; iexact HL
    isplitl [HP2]; · iexact HP2
    isplitl [HO]; · iexact HO
    isplitl [HtS2]; · iexact HtS2
    iexact HtV2
  iintro ⟨HcS2, HO⟩
  iapply (step_sent m K c 1 [3, 4] (credit_acc 1)) $$ [HcS1 HO HaS1]
  · isplitr; · iexact HR
    isplitr; · iexact Hlev
    isplitl [HcS1]; · iexact HcS1
    isplitl [HO]; · iexact HO
    iexact HaS1
  iintro ⟨HO, HzS1, HL⟩
  ihave HL := (show sendPay m 1 c ⊢ owns (c : Thread nD τ) (accM 1) fullShare.left (part m 1 c) from .rfl) $$ HL
  ihave HA1 := (unhalve c 1 (part m 1 c)) $$ [HL HA1]
  · isplitl [HL] <;> iassumption
  iapply (step_recv m K c 2 [3, 4] (by decide) (credit_com 2)) $$ [HcV2 HO HaV2]
  · isplitr; · iexact HR
    isplitr; · iexact Hlev
    isplitl [HcV2]; · iexact HcV2
    isplitl [HO]; · iexact HO
    iexact HaV2
  iintro ⟨HO, HzV2, HC2⟩
  ihave HC2 := (show recvPay m 2 c ⊢ owns (c : Thread nD τ) (comM 2) fullShare (part m 2 (peer 2 c)) from .rfl) $$ HC2
  iapply (Slab.wp_load_slab 𝒱₀ (c : Thread nD τ) none Set.univ (Memref.whole cc0_scratch0) (accR 0) (fun _ => rfl) fullShare.right (part m 2 c)) $$ HA0; iintro HA0
  iapply (Slab.wp_load_slab 𝒱₀ (c : Thread nD τ) none Set.univ (Memref.whole cc0_scratch1) (comR 2) (fun _ => rfl) fullShare (part m 2 (peer 2 c))) $$ HC2; iintro HC2
  iapply (Slab.wp_load_slab 𝒱₀ (c : Thread nD τ) none Set.univ (Memref.whole cc0_scratch0) (accR 1) (fun _ => rfl) fullShare (part m 1 c)) $$ HA1; iintro HA1
  iapply (Slab.wp_store_slab 𝒱₀ (c : Thread nD τ) none Set.univ (Memref.whole cc0_scratch0) (accR 1) (fun _ => rfl) (part m 1 c) (part m 3 c)) $$ HA1; iintro HA1
  -- round 3
  ihave HA1 := (halve c 1 (part m 3 c)) $$ HA1
  icases HA1 with ⟨HL, HA1⟩
  iapply (step_send m K c 3 [4] _ (dev9_eq c)) $$ [HL HP3 HO HtS3 HtV3]
  · isplitr; · iexact HR
    isplitl [HL]; · unfold sendPay; iexact HL
    isplitl [HP3]; · iexact HP3
    isplitl [HO]; · iexact HO
    isplitl [HtS3]; · iexact HtS3
    iexact HtV3
  iintro ⟨HcS3, HO⟩
  iapply (step_sent m K c 2 [4] (credit_acc 0)) $$ [HcS2 HO HaS2]
  · isplitr; · iexact HR
    isplitr; · iexact Hlev
    isplitl [HcS2]; · iexact HcS2
    isplitl [HO]; · iexact HO
    iexact HaS2
  iintro ⟨HO, HzS2, HL⟩
  ihave HL := (show sendPay m 2 c ⊢ owns (c : Thread nD τ) (accM 0) fullShare.left (part m 2 c) from .rfl) $$ HL
  ihave HA0 := (unhalve c 0 (part m 2 c)) $$ [HL HA0]
  · isplitl [HL] <;> iassumption
  iapply (step_recv m K c 3 [4] (by decide) (credit_com 3)) $$ [HcV3 HO HaV3]
  · isplitr; · iexact HR
    isplitr; · iexact Hlev
    isplitl [HcV3]; · iexact HcV3
    isplitl [HO]; · iexact HO
    iexact HaV3
  iintro ⟨HO, HzV3, HC3⟩
  ihave HC3 := (show recvPay m 3 c ⊢ owns (c : Thread nD τ) (comM 3) fullShare (part m 3 (peer 3 c)) from .rfl) $$ HC3
  iapply (Slab.wp_load_slab 𝒱₀ (c : Thread nD τ) none Set.univ (Memref.whole cc0_scratch0) (accR 1) (fun _ => rfl) fullShare.right (part m 3 c)) $$ HA1; iintro HA1
  iapply (Slab.wp_load_slab 𝒱₀ (c : Thread nD τ) none Set.univ (Memref.whole cc0_scratch1) (comR 3) (fun _ => rfl) fullShare (part m 3 (peer 3 c))) $$ HC3; iintro HC3
  iapply (Slab.wp_load_slab 𝒱₀ (c : Thread nD τ) none Set.univ (Memref.whole cc0_scratch0) (accR 0) (fun _ => rfl) fullShare (part m 2 c)) $$ HA0; iintro HA0
  iapply (Slab.wp_store_slab 𝒱₀ (c : Thread nD τ) none Set.univ (Memref.whole cc0_scratch0) (accR 0) (fun _ => rfl) (part m 2 c) (part m 4 c)) $$ HA0; iintro HA0
  -- round 4
  ihave HA0 := (halve c 0 (part m 4 c)) $$ HA0
  icases HA0 with ⟨HL, HA0⟩
  iapply (step_send m K c 4 [] _ (dev10_eq c)) $$ [HL HP4 HO HtS4 HtV4]
  · isplitr; · iexact HR
    isplitl [HL]; · unfold sendPay; iexact HL
    isplitl [HP4]; · iexact HP4
    isplitl [HO]; · iexact HO
    isplitl [HtS4]; · iexact HtS4
    iexact HtV4
  iintro ⟨HcS4, HO⟩
  iapply (step_sent m K c 3 [] (credit_acc 1)) $$ [HcS3 HO HaS3]
  · isplitr; · iexact HR
    isplitr; · iexact Hlev
    isplitl [HcS3]; · iexact HcS3
    isplitl [HO]; · iexact HO
    iexact HaS3
  iintro ⟨HO, HzS3, HL⟩
  ihave HL := (show sendPay m 3 c ⊢ owns (c : Thread nD τ) (accM 1) fullShare.left (part m 3 c) from .rfl) $$ HL
  ihave HA1 := (unhalve c 1 (part m 3 c)) $$ [HL HA1]
  · isplitl [HL] <;> iassumption
  iapply (step_recv m K c 4 [] (by decide) (credit_com 4)) $$ [HcV4 HO HaV4]
  · isplitr; · iexact HR
    isplitr; · iexact Hlev
    isplitl [HcV4]; · iexact HcV4
    isplitl [HO]; · iexact HO
    iexact HaV4
  iintro ⟨HO, HzV4, HC4⟩
  ihave HC4 := (show recvPay m 4 c ⊢ owns (c : Thread nD τ) (comM 4) fullShare (part m 4 (peer 4 c)) from .rfl) $$ HC4
  iapply (Slab.wp_load_slab 𝒱₀ (c : Thread nD τ) none Set.univ (Memref.whole cc0_scratch0) (accR 0) (fun _ => rfl) fullShare.right (part m 4 c)) $$ HA0; iintro HA0
  iapply (Slab.wp_load_slab 𝒱₀ (c : Thread nD τ) none Set.univ (Memref.whole cc0_scratch1) (comR 4) (fun _ => rfl) fullShare (part m 4 (peer 4 c))) $$ HC4; iintro HC4
  iapply (Slab.wp_load_slab 𝒱₀ (c : Thread nD τ) none Set.univ (Memref.whole cc0_scratch0) (accR 1) (fun _ => rfl) fullShare (part m 3 c)) $$ HA1; iintro HA1
  iapply (Slab.wp_store_slab 𝒱₀ (c : Thread nD τ) none Set.univ (Memref.whole cc0_scratch0) (accR 1) (fun _ => rfl) (part m 3 c) (part m 5 c)) $$ HA1; iintro HA1
  -- the last transfer has left; the sum is the result
  iapply (step_sent m K c 4 [] (credit_acc 0)) $$ [HcS4 HO HaS4]
  · isplitr; · iexact HR
    isplitr; · iexact Hlev
    isplitl [HcS4]; · iexact HcS4
    isplitl [HO]; · iexact HO
    iexact HaS4
  iintro ⟨HO, HzS4, HL⟩
  ihave HL := (show sendPay m 4 c ⊢ owns (c : Thread nD τ) (accM 0) fullShare.left (part m 4 c) from .rfl) $$ HL
  ihave HA0 := (unhalve c 0 (part m 4 c)) $$ [HL HA0]
  · isplitl [HL] <;> iassumption
  iapply (Slab.wp_load_slab 𝒱₀ (c : Thread nD τ) none Set.univ (Memref.whole cc0_scratch0) (accR 1) (fun _ => rfl) fullShare (part m 5 c)) $$ HA1; iintro HA1
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0)
    (r := Rect.unit (s := S256x256) ![0, 0] S256x256.size inb_S256x256_S256x256_0_0) (Mk := Finset.univ) (Finset.subset_univ _)) $$ Hout; iintro Hout
  rw [write_out, wp_ret]; imodintro
  iapply Hk
  unfold bodyPost Φ₁ zeros Dat.owesAt Pipeline.owesWithin
  rw [show (dats m ρ 0 c).owed t0_0.succ = 0 from rfl]
  isplitl [HzB HzS0 HzS1 HzS2 HzS3 HzS4 HzV0 HzV1 HzV2 HzV3 HzV4 HA0 HA1 HC0 HC1 HC2 HC3 HC4]
  · isplitl [HzB HzS0 HzS1 HzS2 HzS3 HzS4 HzV0 HzV1 HzV2 HzV3 HzV4]
    · isplitl [HzB]; · iexact HzB
      isplitl [HzS0 HzS1 HzS2 HzS3 HzS4]
      · iapply (Entails.of_eq (five fun r : Fin 5 => (semVal (sendCell r c) 0 : sProp 𝕄)).symm)
        isplitl [HzS0]; · iexact HzS0
        isplitl [HzS1]; · iexact HzS1
        isplitl [HzS2]; · iexact HzS2
        isplitl [HzS3] <;> iassumption
      · iapply (Entails.of_eq (five fun r : Fin 5 => (semVal (recvCell r c) 0 : sProp 𝕄)).symm)
        isplitl [HzV0]; · iexact HzV0
        isplitl [HzV1]; · iexact HzV1
        isplitl [HzV2]; · iexact HzV2
        isplitl [HzV3] <;> iassumption
    isplitl [HA0 HA1]
    · iapply (acc_join c)
      isplitl [HA0]
      · iexists (part m 4 c); iexact HA0
      · iexists (part m 5 c); iexact HA1
    · iapply (com_join c)
      iapply (Entails.of_eq (five (comAny c)).symm)
      isplitl [HC0]; · iexists (part m 0 (peer 0 c)); iexact HC0
      isplitl [HC1]; · iexists (part m 1 (peer 1 c)); iexact HC1
      isplitl [HC2]; · iexists (part m 2 (peer 2 c)); iexact HC2
      isplitl [HC3]; · iexists (part m 3 (peer 3 c)); iexact HC3
      iexists (part m 4 (peer 4 c)); iexact HC4
  isplitl [HO]
  · ihave HO := (show (debt c (owedRecv c []) : sProp 𝕄) ⊢ iprop(∃ W, owes (c : Thread nD τ) 0 W) from .rfl) $$ HO
    icases HO with ⟨%W', HO⟩
    iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

set_option maxRecDepth 4000 in
/-- The library's obligation of the body on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show (bodyPre m ρ c : sProp 𝕄) ⊢ wp frame (wpE (defs₀ (F := F)) 𝒱₀ (c : Thread nD τ) none) Set.univ (bodyAt0 t0_0) (fun _ => bodyPost m ρ c)
  iintro H
  iapply (sound_body m ρ c fun _ => bodyPost m ρ c)
  isplitl [H]; · iexact H
  iintro H; iexact H

end Body

end Cert.KernelIdeal.Exchange

end
-- ==== Proof.KernelIdealRun.lean ====
/-
# The run of the kernel on all devices

The launch: the cells' protocols are set up on all devices at once, the tokens are dealt to the devices
that pay with them, and the run ends with every result array at its computed contents.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 1 ⊕ (Fin 5 ⊕ Fin 5) → SemLoc sig) := by decide

theorem kcell_injective : Function.Injective (kcell : Cell → GSem nD τ sig) := by
  rintro ⟨c, k⟩ ⟨c', k'⟩ h
  have h1 : c = c' := congrArg (fun g : GSem nD τ sig => g.1.1) h
  have h2 : k = k' := csem_injective (congrArg Prod.snd h)
  subst h1 h2; rfl

def cells : Finset (GSem nD τ sig) := Finset.univ.map ⟨kcell, kcell_injective⟩

/-- A duty of a device's own cells: a barrier cell's five, a send or receive cell's one. -/
abbrev tokOf (cj : Dev nD × (Fin 5 ⊕ (Fin 5 ⊕ Fin 5))) : GSem nD τ sig × ℕ × Fin 5 := match cj.2 with
  | .inl d => (barCell cj.1, 0, d)
  | .inr (.inl r) => (sendCell r cj.1, 0, 0)
  | .inr (.inr r) => (recvCell r cj.1, 0, 0)

theorem tokOf_injective : Function.Injective tokOf := by
  rintro ⟨c, j⟩ ⟨c', j'⟩ h
  have h1 : c = c' := by
    have := congrArg (fun x : GSem nD τ sig × ℕ × Fin 5 => x.1.1.1) h
    rcases j with d | r | r <;> rcases j' with d' | r' | r' <;> exact this
  subst h1
  have hj : ∀ j j' : Fin 5 ⊕ (Fin 5 ⊕ Fin 5), (fun x : GSem nD τ sig × ℕ × Fin 5 => (x.1.2, x.2.2)) (tokOf (0, j))
      = (fun x : GSem nD τ sig × ℕ × Fin 5 => (x.1.2, x.2.2)) (tokOf (0, j')) → j = j' := by decide
  have h2 : (fun x : GSem nD τ sig × ℕ × Fin 5 => (x.1.2, x.2.2)) (tokOf (c, j))
      = (fun x : GSem nD τ sig × ℕ × Fin 5 => (x.1.2, x.2.2)) (tokOf (c, j')) := congrArg (fun x : GSem nD τ sig × ℕ × Fin 5 => (x.1.2, x.2.2)) h
  have : j = j' := hj j j' (by
    rcases j with d | r | r <;> rcases j' with d' | r' | r' <;> exact h2)
  subst this; rfl

def tokens : Finset (GSem nD τ sig × ℕ × Fin 5) := Finset.univ.map ⟨tokOf, tokOf_injective⟩

def u₀ : UU :=
  (initOf (Pipeline.cells cfgs cellOf_inj) (Pipeline.launchToks cfgs cellOf_inj), initOf cells tokens)

/-- The duty tokens of device `c`'s own cells. -/
def toks (c : Dev nD) : sProp 𝕄 :=
  iprop((bigSep Finset.univ fun d : Fin 5 => dutyTok ER (barCell c) 0 d)
    ∗ (bigSep Finset.univ fun r : Fin 5 => dutyTok ER (sendCell r c) 0 0)
    ∗ (bigSep Finset.univ fun r : Fin 5 => dutyTok ER (recvCell r c) 0 0))

/-- What the launch deals device `c`, -/
def G (c : Dev nD) : sProp 𝕄 :=
  iprop((bigSep Finset.univ fun k => roundState ER (sched m) (kcell (c, k)) 0)
    ∗ (bigSep Finset.univ fun k => iprop(atPos ER (kcell (c, k)) 0 ∅ 0 ∗ reached ER (kcell (c, k)) 0)) ∗ toks c)

/-- and what the set-up of all devices at once makes of it. -/
def G' (c : Dev nD) : sProp 𝕄 := iprop(∃ K, records m K ∗ linear c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_univ_sum]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A family over a device's cells, kind by kind. -/
theorem by_kind (Φ : Fin 1 ⊕ (Fin 5 ⊕ Fin 5) → sProp 𝕄) :
    bigSep Finset.univ Φ = iprop(Φ (.inl 0) ∗ (bigSep Finset.univ fun r => Φ (.inr (.inl r))) ∗ bigSep Finset.univ fun r => Φ (.inr (.inr r))) := by
  rw [bigSep_univ_sum, bigSep_univ_sum, bigSep_univ_of_subsingleton (0 : Fin 1)]
  rfl

theorem ownSems0_eq (c : Dev nD) : (Pipeline.ownSems0 (Ix := Unit) (Name := ℕ) (U := UU) (Lvl := ℕ) (Val := Elt F) (τ := τ) osem c : sProp 𝕄)
    = iprop((bigSep Finset.univ fun r : Fin 5 => semVal (sendCell r c) 0) ∗ bigSep Finset.univ fun r : Fin 5 => semVal (recvCell r c) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, by_kind]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A token per device and round may be dealt to the partner of that round instead. -/
theorem dealt (Φ : Fin 5 → Dev nD → sProp 𝕄) :
    (bigSep Finset.univ fun c : Dev nD => bigSep Finset.univ fun r : Fin 5 => Φ r c)
      = bigSep Finset.univ fun c : Dev nD => bigSep Finset.univ fun r : Fin 5 => Φ r (peer r c) := by
  rw [bigSep_univ_comm, bigSep_univ_comm (fun (c : Dev nD) (r : Fin 5) => Φ r (peer r c))]
  exact bigSep_congr fun r _ => bigSep_univ_equiv (peerEquiv r) (Φ r)

/-- The tokens of the duties device `c` pays. -/
def payToks (c : Dev nD) : sProp 𝕄 :=
  iprop((bigSep Finset.univ fun d : Fin 5 => dutyTok ER (barCell (peer d c)) 0 d)
    ∗ (bigSep Finset.univ fun r : Fin 5 => dutyTok ER (sendCell r c) 0 0)
    ∗ (bigSep Finset.univ fun r : Fin 5 => dutyTok ER (recvCell r (peer r c)) 0 0))

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    dealt (fun d c => (dutyTok ER (barCell c) 0 d : sProp 𝕄)), dealt (fun r c => (dutyTok ER (recvCell r c) 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) :
    iprop((bigSep Finset.univ fun k => (atPos ER (kcell (c, k)) 0 ∅ 0 : sProp 𝕄)) ∗ payToks c) ⊢ linear c := by
  unfold payToks linear
  rw [by_kind]
  iintro ⟨⟨H1, H2, H3⟩, H4, H5, H6⟩
  isplitl [H1]; · iexact H1
  isplitl [H2]; · iexact H2
  isplitl [H3]; · iexact H3
  isplitl [H4]; · iexact H4
  isplitl [H5] <;> iassumption

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Cell => iprop(∃ κ : ℕ, cellInv ER (sched m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Cell => (reached ER (kcell ck) 0 : sProp 𝕄))]
  iintro ⟨HI, ⟨Hat, #HR⟩, Htok⟩
  ihave HK := (BI.bigSep_exists_pi Finset.univ (fun (ck : Cell) (κ : ℕ) => (cellInv ER (sched m) κ (kcell ck) : sProp 𝕄))) $$ HI
  icases HK with ⟨%K, #HI⟩
  ihave Htk := (toks_around (F := F)) $$ Htok
  iapply (with_persistent (R := records m K) (Φ := fun c => iprop((bigSep Finset.univ fun k => (atPos ER (kcell (c, k)) 0 ∅ 0 : sProp 𝕄)) ∗ payToks c))
    (Ψ := G' m) fun c _ => by
      unfold G'
      iintro ⟨#H, HL⟩
      iexists K
      isplitr; · iexact H
      iapply (linear_intro (F := F) c); iexact HL)
  isplitr
  · unfold records
    rw [bigSep_sep']
    isplitl; · iexact HI
    iexact HR
  · rw [bigSep_sep']
    isplitl [Hat] <;> iassumption

/-- The set-up, of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe a cell, together -/

theorem cell_inj {c c' : Dev nD} {sm sm' : SemLoc sig} (h : ((c : Thread nD τ), sm) = (((c' : Dev nD) : Thread nD τ), sm')) : c = c' ∧ sm = sm' :=
  ⟨congrArg (fun g : GSem nD τ sig => g.1.1) h, congrArg Prod.snd h⟩

theorem bar_ne_recv (r : Fin 5) (c c' : Dev nD) : barCell c ≠ recvCell r c' := fun h => by cases (cell_inj h).2

theorem recvS_inj {r r' : Fin 5} (h : (SemLoc.dma (recvS r) : SemLoc sig) = .dma (recvS r')) : r = r' := by
  revert r r'; decide

theorem owedRecv_at_bar (d c : Dev nD) (l : List (Fin 5)) : owedRecv d l (barCell c) () = 0 := by
  induction l with
  | nil => rfl
  | cons r l ih =>
    show owedRecv d l (barCell c) () + tallyAt (recvCell r (peer r d)) () N (barCell c) () = 0
    rw [ih, tallyAt_apply, if_neg fun h => bar_ne_recv _ _ _ h.1]

theorem owedBar_at_bar (d c : Dev nD) (l : List (Fin 5)) :
    owedBar d l (barCell c) () = (l.map fun r => if d = peer r c then 1 else 0).sum := by
  induction l with
  | nil => exact owedRecv_at_bar d c _
  | cons r l ih =>
    show owedBar d l (barCell c) () + tallyAt (barCell (peer r d)) () 1 (barCell c) () = _
    rw [ih, tallyAt_apply, List.map_cons, List.sum_cons, Nat.add_comm]
    congr 1
    by_cases h : d = peer r c
    · subst h; rw [peer_peer, if_pos ⟨rfl, rfl⟩, if_pos rfl]
    · rw [if_neg h, if_neg fun h' => h (by rw [(cell_inj h'.1).1, peer_peer])]

theorem owedRecv_at_recv (d c : Dev nD) (r : Fin 5) (l : List (Fin 5)) :
    owedRecv d l (recvCell r c) () = (l.map fun r' => if r = r' then (if d = peer r c then N else 0) else 0).sum := by
  induction l with
  | nil => rfl
  | cons r' l ih =>
    show owedRecv d l (recvCell r c) () + tallyAt (recvCell r' (peer r' d)) () N (recvCell r c) () = _
    rw [ih, tallyAt_apply, List.map_cons, List.sum_cons, Nat.add_comm]
    congr 1
    by_cases hr : r = r'
    · subst hr
      rw [if_pos rfl]
      by_cases h : d = peer r c
      · subst h; rw [peer_peer, if_pos ⟨rfl, rfl⟩, if_pos rfl]
      · rw [if_neg h, if_neg fun h' => h (by rw [(cell_inj h'.1).1, peer_peer])]
    · rw [if_neg hr, if_neg fun h' => hr (recvS_inj (cell_inj h'.1).2)]

theorem owedBar_at_recv (d c : Dev nD) (r : Fin 5) (l : List (Fin 5)) :
    owedBar d l (recvCell r c) () = if d = peer r c then N else 0 := by
  induction l with
  | nil =>
    refine (owedRecv_at_recv d c r _).trans ?_
    by_cases h : d = peer r c
    · simp only [if_pos h]; revert r; intro r; fin_cases r <;> intro _ <;> simp
    · simp [if_neg h]
  | cons r' l ih =>
    show owedBar d l (recvCell r c) () + tallyAt (barCell (peer r' d)) () 1 (recvCell r c) () = _
    rw [ih, tallyAt_apply, if_neg (c := recvCell r c = barCell (peer r' d) ∧ () = ()) (fun h => bar_ne_recv _ _ _ h.1.symm), Nat.add_zero]

theorem launch_bar (c : Dev nD) :
    tallyOn (barCell c) (launchCredit (Pipeline.owing owed₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => show owed₀ d (barCell c) () = _ from owedBar_at_bar d c _]
  simp only [List.map_cons, List.map_nil, List.sum_cons, List.sum_nil, Finset.sum_add_distrib, Finset.sum_ite_eq', Finset.mem_univ, if_true, Finset.sum_const_zero]
  rfl

theorem launch_recv (r : Fin 5) (c : Dev nD) :
    tallyOn (recvCell r c) (launchCredit (Pipeline.owing owed₀) 0 (recvCell r c)) = (tallyAt (recvCell r c) () N : CellTallies nD τ sig Unit) := by
  unfold tallyAt; refine congrArg _ (Finsupp.ext fun u => ?_); cases u
  rw [Pipeline.launchCredit_owing, Finsupp.single_eq_same, Finset.sum_congr rfl fun d _ => show owed₀ d (recvCell r c) () = _ from owedBar_at_recv d c r _,
    Finset.sum_ite_eq' Finset.univ (peer r c) fun _ => N, if_pos (Finset.mem_univ _)]

/-- The semaphores a device waits on for other devices. -/
abbrev wsem : Fin 1 ⊕ Fin 5 → SemLoc sig := fun | .inl _ => .reg barS | .inr r => .dma (recvS r)
theorem wsem_injective : Function.Injective wsem := by decide

theorem creds (c : Dev nD) : (Pipeline.launchCred owed₀ c : sProp 𝕄) ⊢ credits c := by
  unfold Pipeline.launchCred credits
  refine (bigSep_subset (Finset.subset_univ (Finset.univ.map ⟨wsem, wsem_injective⟩))).trans ?_
  rw [bigSep_map, bigSep_univ_sum, bigSep_univ_of_subsingleton (0 : Fin 1)]
  refine BIClass.sep_mono (Entails.of_eq (congrArg cred (launch_bar c))) (bigSep_mono fun r _ => Entails.of_eq (congrArg cred (launch_recv r c)))

/-! ## The launch theorem's side conditions -/

/-- The padding mask, which the kernel never reads. -/
def mask (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts Lev lv
        ∗ Pipeline.launchCred owed₀ c ∗ prngReg c (ρ c) ∗ G' m c)
      ⊢ |={Set.univ}=> iprop(start m c ∗ mask m c) := by
  rw [Pipeline.unscopedRestP_none]
  iintro ⟨Hm, Hlev, Hcr, -, HG⟩
  ihave Hm := (Entails.of_eq (unscopedRest0_eq c (fun b => m ((c : Thread nD τ).loc b)))) $$ Hm
  ihave Hc := (creds (F := F) c) $$ Hcr
  imodintro
  unfold start G' mask
  isplitr [Hm]
  · isplitl [HG]; · iexact HG
    isplitl [Hc] <;> iassumption
  · iexact Hm

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros scr
  iintro ⟨⟨HzB, Hz⟩, Hr⟩
  isplitl [HzB]; · iexact HzB
  isplitl [Hz] <;> iassumption

theorem waits (c : Dev nD) : (levAts Lev lv : sProp 𝕄) ⊢ Pipeline.cellsWaits cfgs (dats m ρ) () 0 c :=
  Pipeline.cellsWaits_intro cfgs (dats m ρ) () 0 c fun w s t => by
    rcases t with ⟨_ | _, ht⟩
    · exact mayWait_all c _ (by fin_cases w <;> fin_cases s <;> rfl)
    · refine (show (levAts Lev lv : sProp 𝕄) ⊢ MayWait (c : Thread nD τ) _ () 0 from ?_)
      rw [MayWait_zero]; iintro -; iempintro

/-! ## The run -/

set_option maxRecDepth 8000 in
/-- Every execution ends, with each device's windows' arrays at their computed contents, its padding mask
    as it was, and every counter at zero. -/
theorem run_main : θ_run defs (onTc (τ := τ) (main (F := F))) (s₀ m ρ) (fun r =>
    (∀ c : Dev nD, (∀ w : Fin cfg0.W, r.2.mem ((cfg0.win w).arr.view.loc (c : Thread nD τ)) = (dats m ρ 0 c).arrAt w cfg0.N)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := Lev) (lv := lv) (hL := Lev_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := mask m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold mask
      iintro ⟨Hu, Hm, HSI⟩
      icombine HSI Hm gives %hm
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ hm, hz⟩
      iexact HSI)
    (hQ := fun _ h hs => ⟨fun c => ⟨(h c).1, (h c).2.2.1⟩, sem_eq_zero hs fun c => (h c).2.2.2⟩)

/-- The arrays the kernel reads end as they began. -/
theorem arr_kept (c : Dev nD) (w : Fin cfg0.W) (hw : (cfg0.win w).isOut = false) :
    (dats m ρ 0 c).arrAt w cfg0.N = m ((cfg0.win w).arr.view.loc (c : Thread nD τ)) := (dats (F := F) m ρ 0 c).arrAt_in w hw _

/-- The result array ends holding what the body left in its staging buffer: the one block is the whole array. -/
theorem arr_result (c : Dev nD) : (dats m ρ 0 c).arrAt 3 cfg0.N = outAt m c := by
  have h : (win0_3.blk t0_0).view.read (Elt F) ((dats m ρ 0 c).arrAt 3 cfg0.N) = outAt m c := by
    rw [show cfg0.N = t0_0.val + 1 from rfl, (dats m ρ 0 c).arrAt_succ 3 t0_0, if_pos (flush0_3 t0_0)]
    exact View.read_write_univ _ _
  rwa [Memref.read_access_unit_zero (Elt F) main_v1 (funext fun a => by fin_cases a <;> decide) (fun a => by fin_cases a <;> decide)] at h

end Cert.KernelIdeal.Exchange

end
-- ==== Proof.Share.lean ====
/-
# What a device computes by itself, entry by entry, at the ideal instance

A device's share: for each of its two experts, the token's product with the expert's weights if the token
names that expert, zero if not.
-/
module

public import proofs.«01_k».proof.Proof.KernelIdealRun
public import Idealize.ShloMosaic.Lib.Pointwise
public import Idealize.ShloMosaic.Lib.Layout

@[expose] public section

set_option maxRecDepth 16384

noncomputable section

namespace Cert.KernelIdeal.Exchange

open Cert.KernelIdeal Cert.KernelIdeal.Gen
open Idealize.ShloMosaic Idealize.ShloMosaic.TcCoe
open Idealize.SL.Sem

/-- The tokens, their expert numbers, and all experts' weights. -/
abbrev Tokens : Type := S256x128.Idx → EReal
abbrev Numbers : Type := S256x1.Idx → BitVec 32
abbrev Experts : Type := (⟨3, ![64, 128, 256]⟩ : Shape).Idx → EReal

/-- Entry `(t, f)` of the tokens' products with expert `e`, where token `t` names it. -/
def ifNamed (x : Tokens) (i : Numbers) (w : Experts) (e : Fin 64) (t f : Fin 256) : EReal :=
  if i (ix2 t 0) = BitVec.ofNat 32 e.val then ∑ k : Fin 128, x (ix2 t k) * w (ix3 e k f) else 0

/-- Expert `j` of device `c`. -/
def expert (c : Dev nD) (j : Fin 2) : Fin 64 := ⟨c.val * 2 + j.val, by have := c.isLt; have := j.isLt; change c.val < 32 at *; omega⟩

/-- The numbers of device `c`'s experts, as the kernel's words compute them. -/
theorem first_eq (c : Dev nD) : first c = BitVec.ofNat 32 (expert c 0).val := by
  revert c; decide
theorem second_eq (c : Dev nD) : first c + 1#32 = BitVec.ofNat 32 (expert c 1).val := by
  revert c; decide

/-- Testing words for equality, then choosing. -/
theorem select_eq {α : Type} (a b : BitVec 32) (p q : α) : Scalar.select (IntOp.cmpi CmpIPredicate.eq a b) p q = if a = b then p else q := by
  unfold Scalar.select IntOp.cmpi
  by_cases h : a = b
  · simp [h]
  · have h' : (a == b) = false := beq_eq_false_iff_ne.mpr h
    simp [h, h']

theorem payload_apply (x : FVec Ideal S256x128 .bf16) (i : IVec S256x1 32) (b : BitVec 32) (w w' : Vec Ideal S1x128x256 .bf16) (t f : Fin 256) :
    (k0_pay4 (k0_pay2 x) (k0_pay3 (F := Ideal) i) b w w' (ix3 0 t f) : EReal)
      = (if i (ix2 t 0) = b then ∑ k : Fin 128, x (ix2 t k) * w (ix3 0 k f) else 0)
        + (if i (ix2 t 0) = b + 1#32 then ∑ k : Fin 128, x (ix2 t k) * w' (ix3 0 k f) else 0) := by
  pointwise [k0_pay4, k0_pay2, k0_pay3]
  rw [select_eq, select_eq]
  simp only [Scalar.addi, IntOp.addi, BitVec.add_zero]
  rfl

theorem sum_apply (a b : Slab Ideal) (t f : Fin 256) : (k0_pay5 a b (ix3 0 t f) : EReal) = a (ix3 0 t f) + b (ix3 0 t f) := by
  pointwise [k0_pay5]
theorem out_apply (a : Slab Ideal) (t f : Fin 256) : (k0_pay1 a (ix2 t f) : EReal) = a (ix3 0 t f) := by
  pointwise [k0_pay1]

/-! ## The arguments as the body finds them -/

variable (m : (ℓ : Loc nD τ sig) → Buf (Elt Ideal) ℓ) (c : Dev nD)

theorem xs_eq : xs m c = m ((c : Thread nD τ).loc main_arg0) :=
  Memref.read_access_unit_zero (Elt Ideal) main_arg0 (funext fun a => by fin_cases a <;> decide) (fun a => by fin_cases a <;> decide) _
theorem is_eq : is m c = m ((c : Thread nD τ).loc main_arg2) :=
  Memref.read_access_unit_zero (Elt Ideal) main_arg2 (funext fun a => by fin_cases a <;> decide) (fun a => by fin_cases a <;> decide) _
theorem ws_eq : ws m c = m ((c : Thread nD τ).loc main_arg3) :=
  Memref.read_access_unit_zero (Elt Ideal) main_arg3 (funext fun a => by fin_cases a <;> decide) (fun a => by fin_cases a <;> decide) _

theorem wAt0_apply (k : Fin 128) (f : Fin 256) : wAt0 m c (ix3 0 k f) = ws m c (ix3 0 k f) := by
  unfold wAt0
  exact congrArg (ws m c) (funext fun a => Fin.ext (by fin_cases a <;> simp [Rect.toLoadRect]))
theorem wAt1_apply (k : Fin 128) (f : Fin 256) : wAt1 m c (ix3 0 k f) = ws m c (ix3 1 k f) := by
  unfold wAt1
  exact congrArg (ws m c) (funext fun a => Fin.ext (by fin_cases a <;> simp))

/-- The memory holds, on every device, the whole tokens and numbers and the device's two experts. -/
def Holds (x : Tokens) (i : Numbers) (w : Experts) : Prop := ∀ c : Dev nD,
  m ((c : Thread nD τ).loc main_arg0) = x ∧ m ((c : Thread nD τ).loc main_arg2) = i
    ∧ m ((c : Thread nD τ).loc main_arg3) = Layout.block ⟨3, ![2, 128, 256]⟩ ⟨3, ![64, 128, 256]⟩ 0 32 c w

theorem block_at (w : Experts) (j : Fin 2) (k : Fin 128) (f : Fin 256) :
    Layout.block ⟨3, ![2, 128, 256]⟩ ⟨3, ![64, 128, 256]⟩ 0 32 c w (by decide) (ix3 j k f) = w (ix3 (expert c j) k f) :=
  congrArg w (funext fun a => Fin.ext (by fin_cases a <;> rfl))

/-- A device's own share. -/
theorem share_apply {x : Tokens} {i : Numbers} {w : Experts} (h : Holds m x i w) (t f : Fin 256) :
    (part m 0 c (ix3 0 t f) : EReal) = ifNamed x i w (expert c 0) t f + ifNamed x i w (expert c 1) t f := by
  obtain ⟨hx, hi, hw⟩ := h c
  show (k0_pay4 (k0_pay2 (xs m c)) (k0_pay3 (F := Ideal) (is m c)) (first c) (wAt0 m c) (wAt1 m c) (ix3 0 t f) : EReal) = _
  rw [payload_apply, second_eq, first_eq]
  unfold ifNamed
  simp only [wAt0_apply, wAt1_apply, ws_eq, xs_eq, is_eq, hx, hi, hw, block_at]

end Cert.KernelIdeal.Exchange

end
-- ==== Proof.Total.lean ====
/-
# What the five rounds add up, at the ideal instance

After `r` rounds a device holds the shares of the `2 ^ r` devices whose numbers agree with its own above
the lowest `r` bits, each once; after five, of all.
-/
module

public import proofs.«01_k».proof.Proof.Share

@[expose] public section

noncomputable section

namespace Cert.KernelIdeal.Exchange

open Cert.KernelIdeal Cert.KernelIdeal.Gen
open Idealize.ShloMosaic Idealize.ShloMosaic.TcCoe
open Idealize.SL.Sem

/-- The devices whose shares device `c` holds before round `r`. -/
def heard (r : ℕ) (c : Dev nD) : Finset (Dev nD) := Finset.univ.filter fun d => d.val / 2 ^ r = c.val / 2 ^ r

theorem heard_zero : ∀ c : Dev nD, heard 0 c = {c} := by decide
theorem heard_all : ∀ c : Dev nD, heard 5 c = Finset.univ := by decide
theorem heard_disjoint : ∀ (r : Fin 5) (c : Dev nD), Disjoint (heard r.val c) (heard r.val (peer r c)) := by decide
theorem heard_succ : ∀ (r : Fin 5) (c : Dev nD), heard (r.val + 1) c = heard r.val c ∪ heard r.val (peer r c) := by decide

variable (m : (ℓ : Loc nD τ sig) → Buf (Elt Ideal) ℓ)

theorem part_apply (t f : Fin 256) : ∀ r : ℕ, r ≤ 5 → ∀ c : Dev nD,
    (part m r c (ix3 0 t f) : EReal) = ∑ d ∈ heard r c, (part m 0 d (ix3 0 t f) : EReal)
  | 0, _, c => by rw [heard_zero, Finset.sum_singleton]
  | r + 1, hr, c => by
    have h := heard_succ ⟨r, by omega⟩ c
    have hd := heard_disjoint ⟨r, by omega⟩ c
    have he : (Fin.ofNat 5 r) = ⟨r, by omega⟩ := Fin.ext (Nat.mod_eq_of_lt (by omega))
    show (k0_pay5 (part m r c) (part m r (peer (Fin.ofNat 5 r) c)) (ix3 0 t f) : EReal) = _
    rw [sum_apply, he, part_apply t f r (by omega), part_apply t f r (by omega), show heard (r + 1) c = _ from h, Finset.sum_union hd]

/-- Every expert is one device's. -/
theorem sum_experts (g : Fin 64 → EReal) : (∑ c : Dev nD, (g (expert c 0) + g (expert c 1))) = ∑ e : Fin 64, g e := by
  rw [← (finProdFinEquiv : Fin 32 × Fin 2 ≃ Fin 64).sum_comp g, Fintype.sum_prod_type]
  refine Finset.sum_congr rfl fun c _ => ?_
  rw [Fin.sum_univ_two]
  congr 2 <;> refine Fin.ext ?_ <;> simp [expert, finProdFinEquiv] <;> omega

/-- The kernel's result: each token's product with the expert it names. -/
theorem outAt_apply {x : Tokens} {i : Numbers} {w : Experts} (h : Holds m x i w) (c : Dev nD) (t f : Fin 256) :
    (outAt m c (ix2 t f) : EReal) = ∑ e : Fin 64, ifNamed x i w e t f := by
  show (k0_pay1 (part m 5 c) (ix2 t f) : EReal) = _
  rw [out_apply, part_apply m t f 5 (le_refl 5), heard_all, ← sum_experts]
  exact Finset.sum_congr rfl fun d _ => share_apply m d h t f

end Cert.KernelIdeal.Exchange

end
-- ==== Proof.Product.lean ====
/-
# What the reference computes, entry by entry, at the ideal instance

A token whose number is an expert's gets its product with that expert's weights, any other zero: the same
as the sum over all experts of the product where the token names the expert.
-/
module

public import proofs.«01_k».proof.Proof.Share
public import proofs.«01_k».proof.Proof.Gen.ReferenceIdeal.Run

@[expose] public section

set_option maxRecDepth 16384

noncomputable section

namespace Cert.ReferenceIdeal.Product

open Cert.ReferenceIdeal Cert.ReferenceIdeal.Gen
open Idealize.ShloMosaic Idealize.ShloMosaic.TcCoe
open Idealize.SL.Sem
open Cert.KernelIdeal.Exchange (Tokens Numbers Experts ifNamed)

/-- Taking experts by number: entry `(t, k, f)` is the weights' at the clamped number of token `t`. -/
theorem take_apply {α : Type} (w : S64x128x256.Idx → α) (i : IVec S256x1 32) (t : Fin 256) (k : Fin 128) (f : Fin 256) :
    Host.gather gather_S64x128x256_S256x1_S256x128x256_12_0_n_n_0_1_1128256 w i (ix3 t k f)
      = w (ix3 ⟨min (i (ix2 t 0)).toInt.toNat 63, by omega⟩ k f) := by
  refine congrArg w (funext fun a => Fin.ext ?_)
  show GatherDims.start _ _ i a + GatherDims.batchCoord _ _ a + GatherDims.offCoord _ _ a = _
  rw [GatherDims.batchCoord_eq_zero _ _ _ List.not_mem_nil, Nat.add_zero]
  obtain rfl | rfl | rfl : a = 0 ∨ a = 1 ∨ a = 2 := by revert a; decide
  · rw [GatherDims.offCoord_eq_zero _ _ _ fun h => ((GatherDims.mem_sKept _ _).mp h).1 (List.mem_singleton.mpr rfl), Nat.add_zero]
    unfold GatherDims.start
    rw [dif_pos (show (0 : Fin 3) ∈ gather_S64x128x256_S256x1_S256x128x256_12_0_n_n_0_1_1128256.startIndexMap from List.mem_singleton.mpr rfl)]
    have hs : gather_S64x128x256_S256x1_S256x128x256_12_0_n_n_0_1_1128256.siIdx (ix3 t k f)
        ⟨List.idxOf (0 : Fin 3) [(0 : Fin 3)], by decide⟩ = ix2 t 0 :=
      funext fun b => Fin.ext (match b with | ⟨0, _⟩ => rfl | ⟨1, _⟩ => rfl)
    exact congrArg (fun y => min (i y).toInt.toNat 63) hs
  · unfold GatherDims.start GatherDims.offCoord
    rw [dif_neg (show (1 : Fin 3) ∉ gather_S64x128x256_S256x1_S256x128x256_12_0_n_n_0_1_1128256.startIndexMap from (by decide : (1 : Fin 3) ∉ [(0 : Fin 3)])),
      dif_pos ((GatherDims.mem_sKept _ _).mpr ⟨(by decide : (1 : Fin 3) ∉ [(0 : Fin 3)]), List.not_mem_nil⟩)]
    exact Nat.zero_add _
  · unfold GatherDims.start GatherDims.offCoord
    rw [dif_neg (show (2 : Fin 3) ∉ gather_S64x128x256_S256x1_S256x128x256_12_0_n_n_0_1_1128256.startIndexMap from (by decide : (2 : Fin 3) ∉ [(0 : Fin 3)])),
      dif_pos ((GatherDims.mem_sKept _ _).mpr ⟨(by decide : (2 : Fin 3) ∉ [(0 : Fin 3)]), List.not_mem_nil⟩)]
    exact Nat.zero_add _

/-- A word between 0 and 63, read signed, is the number of one expert. -/
theorem in_range (v : BitVec 32) :
    IntOp.andi (IntOp.cmpi CmpIPredicate.sge v 0#32) (IntOp.cmpi CmpIPredicate.slt v 64#32) = if v.toNat < 64 then 1#1 else 0#1 := by
  have h : ∀ p : Bool, BitVec.ofBool p = if p then 1#1 else 0#1 := by decide
  by_cases hv : v.toNat < 64
  · have h0 : (0#32).sle v = true := by simp only [BitVec.sle, BitVec.toInt_eq_toNat_cond, decide_eq_true_eq]; simp; omega
    have h1 : v.slt 64#32 = true := by simp only [BitVec.slt, BitVec.toInt_eq_toNat_cond, decide_eq_true_eq]; simp; omega
    simp only [IntOp.andi, IntOp.cmpi, h0, h1, if_pos hv]; rfl
  · have : (0#32).sle v = false ∨ v.slt 64#32 = false := by
      have := v.isLt
      by_cases hs : 2 * v.toNat < 2 ^ 32
      · right; simp only [BitVec.slt, BitVec.toInt_eq_toNat_cond, decide_eq_false_iff_not]; simp; omega
      · left; simp only [BitVec.sle, BitVec.toInt_eq_toNat_cond, decide_eq_false_iff_not]; simp; omega
    simp only [IntOp.andi, IntOp.cmpi, if_neg hv]
    rcases this with e | e <;> simp [e]

/-- Choosing by number is summing over the experts named. -/
theorem sum_named (x : Tokens) (i : Numbers) (w : Experts) (t f : Fin 256) (v : BitVec 32) (hv : i (ix2 t 0) = v) :
    (∑ e : Fin 64, ifNamed x i w e t f)
      = if v.toNat < 64 then ∑ k : Fin 128, x (ix2 t k) * w (ix3 ⟨min v.toInt.toNat 63, by omega⟩ k f) else 0 := by
  unfold ifNamed
  rw [hv]
  by_cases h : v.toNat < 64
  · have he : (⟨min v.toInt.toNat 63, by omega⟩ : Fin 64) = ⟨v.toNat, h⟩ := Fin.ext (by
      simp only [BitVec.toInt_eq_toNat_cond]; rw [if_pos (by omega)]; simp; omega)
    rw [if_pos h, he, Finset.sum_eq_single (⟨v.toNat, h⟩ : Fin 64), if_pos (by simp)]
    · intro e _ hne
      rw [if_neg fun e' => hne (Fin.ext (by
        have := congrArg BitVec.toNat e'
        rw [BitVec.toNat_ofNat, Nat.mod_eq_of_lt (by have := e.isLt; omega)] at this
        exact this.symm))]
    · intro h'; exact absurd (Finset.mem_univ _) h'
  · rw [if_neg h]
    refine Finset.sum_eq_zero fun e _ => if_neg fun e' => h ?_
    rw [e', BitVec.toNat_ofNat, Nat.mod_eq_of_lt (by have := e.isLt; omega)]
    exact e.isLt

/-- The reference's result as its operations compute it. -/
def result (x : FVec Ideal S256x128 .bf16) (i : IVec S256x1 32) (w : FVec Ideal S64x128x256 .bf16) : FVec Ideal S256x256 .f32 :=
  select
    (broadcastInDim S256x256 ![0, 1] bcast_S256x1_S256x256_0_1 (broadcastInDim S256x1 ![0] bcast_S256_S256x1_0
      (andi (cmpi .sge (shapeCast S256 i shapeCasts_S256x1_S256) (broadcastInDim S256 ![] bcast_S_S256 (constantI S_ 32 0#32)))
        (cmpi .slt (shapeCast S256 i shapeCasts_S256x1_S256) (broadcastInDim S256 ![] bcast_S_S256 (constantI S_ 32 64#32))))))
    (Host.dotGeneral dot_S256x128_S256x128x256_S256x256_1_1_n_2_0_0 none (extf .f32 x bitsLt_bf16_f32)
      (Host.gather gather_S64x128x256_S256x1_S256x128x256_12_0_n_n_0_1_1128256 (extf .f32 w bitsLt_bf16_f32)
        (broadcastInDim S256x1 ![0] bcast_S256_S256x1_0 (shapeCast S256 i shapeCasts_S256x1_S256))))
    (broadcastInDim S256x256 ![] bcast_S_S256x256 (id (constant S_ .f32 0x00000000#32)))

theorem result_apply (x : Tokens) (i : Numbers) (w : Experts) (t f : Fin 256) :
    (result x i w (ix2 t f) : EReal) = ∑ e : Fin 64, ifNamed x i w e t f := by
  rw [sum_named x i w t f _ rfl]
  pointwise [result]
  rw [in_range, Scalar.select]
  have hi : broadcastInDim S256x1 ![0] bcast_S256_S256x1_0 (shapeCast S256 i shapeCasts_S256x1_S256) (ix2 t 0) = i (ix2 t 0) := by pointwise
  have hz : (id (constant (F := Ideal) S_ FTy.f32 0#32) ix0 : EReal) = 0 := by show (constant (F := Ideal) S_ FTy.f32 0#32 ix0 : EReal) = 0; pointwise
  rw [hz]
  by_cases h : (i (ix2 t 0)).toNat < 64
  · simp only [if_pos h, if_true]
    refine Finset.sum_congr rfl fun k _ => congrArg (x (ix2 t k) * ·) ?_
    rw [take_apply]
    simp only [hi]
    rfl
  · simp only [if_neg h]
    rfl

end Cert.ReferenceIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Total
public import proofs.«01_k».proof.Proof.Product
public import Idealize.ShloMosaic.Adequacy
public import Idealize.ShloMosaic.Init

@[expose] public section

noncomputable section

namespace Cert.Proof

open Idealize.ShloMosaic Idealize.SL.Sem Cert.Kernel

/-- The kernel runs to the end, its arguments unchanged and its counters at zero. -/
theorem frame_kernel : Cert.quiescent_Kernel := by
  intro m g _
  exact (θ_run _ _ _).mono (fun _ h => ⟨fun c =>
      ⟨((h.1 c).1 0).trans (Cert.Kernel.Exchange.arr_kept m g c 0 rfl), (h.1 c).2,
        ((h.1 c).1 1).trans (Cert.Kernel.Exchange.arr_kept m g c 1 rfl), ((h.1 c).1 2).trans (Cert.Kernel.Exchange.arr_kept m g c 2 rfl)⟩, h.2⟩)
    (Cert.Kernel.Exchange.run_main (F := Bits) m g)

/-- So does the ideal kernel; its result array holds what its body computes. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v1) = Cert.KernelIdeal.Exchange.outAt m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run _ _ _).mono (fun _ h => ⟨fun c =>
      ⟨((h.1 c).1 3).trans (Cert.KernelIdeal.Exchange.arr_result m g c), ((h.1 c).1 0).trans (Cert.KernelIdeal.Exchange.arr_kept m g c 0 rfl), (h.1 c).2,
        ((h.1 c).1 1).trans (Cert.KernelIdeal.Exchange.arr_kept m g c 1 rfl), ((h.1 c).1 2).trans (Cert.KernelIdeal.Exchange.arr_kept m g c 2 rfl)⟩, h.2⟩)
    (Cert.KernelIdeal.Exchange.run_main (F := Ideal) m g)

theorem frame_ideal : Cert.quiescent_KernelIdeal := by
  intro m g _
  exact (θ_run _ _ _).mono (fun _ h => ⟨fun c => (h.1 c).2, h.2⟩) (run_ideal m g)

/-- The reference runs to the end, its arguments unchanged; it has no counter. -/
theorem frame_reference : Cert.quiescent_ReferenceIdeal := by
  intro m g _
  exact (θ_run _ _ _).mono (fun r h => ⟨fun c => (h c).2, sem_eq_zero_of_no_sems (by decide) r.2⟩) (Cert.ReferenceIdeal.Value.run (F := Ideal) m g)

/-- Every device's result is the reference's. -/
theorem equal : Cert.algebraic_KernelIdeal_ReferenceIdeal := by
  intro m g m' g' _ hagree
  refine ⟨Cert.ReferenceIdeal.Product.result _ _ _, (θ_run _ _ _).mono (fun _ h c => ⟨(h.1 c).1.trans (funext fun j => ?_), (h.1 c).2⟩) (run_ideal m g),
    (θ_run _ _ _).mono (fun _ h => h 0) (Cert.ReferenceIdeal.Value.run (F := Ideal) m' g')⟩
  obtain ⟨t, f, rfl⟩ : ∃ (t f : Fin 256), j = ix2 t f := ⟨j 0, j 1, eq_ix2 j⟩
  exact (Cert.KernelIdeal.Exchange.outAt_apply m (fun d => ⟨(hagree d).1, (hagree d).2.2.1, (hagree d).2.2.2⟩) c t f).trans
    (Cert.ReferenceIdeal.Product.result_apply _ _ _ t f).symm

theorem claim : Cert.Claim := ⟨Cert.Kernel.Gen.facts, Cert.KernelIdeal.Gen.facts, Cert.ReferenceIdeal.Gen.facts,
  frame_kernel, frame_ideal, frame_reference, trivial, equal⟩

end Cert.Proof

end
